-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gains_finite [hPre_gains_finite : Cert.Pre_gains_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gains_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gains_finite [hPre_gains_finite : Cert.Pre_gains_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gains_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_OutputReferenceIdeal (m : (ℓ : Loc Cert.OutputReferenceIdeal.nD Cert.OutputReferenceIdeal.τ Cert.OutputReferenceIdeal.sig) → Buf (Elt Ideal) ℓ) : Prop :=
  True

def Pre_Recurrence (m : (ℓ : Loc Cert.Recurrence.nD Cert.Recurrence.τ Cert.Recurrence.sig) → Buf (Elt Bits) ℓ) : Prop :=
  True

def Pre_RecurrenceIdeal (m : (ℓ : Loc Cert.RecurrenceIdeal.nD Cert.RecurrenceIdeal.τ Cert.RecurrenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_gains_finite [hKernelIdeal : Cert.KernelIdeal.Facts] [hPre_gains_finite : Cert.Pre_gains_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gains_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_gains_finite [hReferenceIdeal : Cert.ReferenceIdeal.Facts] [hPre_gains_finite : Cert.Pre_gains_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gains_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4)
      ∧ r.2.mem ((c.tc : Thread Cert.Output.nD Cert.Output.τ).loc Cert.Output.main_arg5) = m ((c.tc : Thread Cert.Output.nD Cert.Output.τ).loc Cert.Output.main_arg5)
      ∧ r.2.mem ((c.tc : Thread Cert.Output.nD Cert.Output.τ).loc Cert.Output.main_arg6) = m ((c.tc : Thread Cert.Output.nD Cert.Output.τ).loc Cert.Output.main_arg6))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
      ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
      ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6))
      ∧ r.2.sem = fun _ => 0)

def quiescent_OutputReferenceIdeal [hOutputReferenceIdeal : Cert.OutputReferenceIdeal.Facts] : Prop :=
  ∀ (m : (ℓ : Loc Cert.OutputReferenceIdeal.nD Cert.OutputReferenceIdeal.τ Cert.OutputReferenceIdeal.sig) → Buf (Elt Ideal) ℓ) (g : Dev Cert.OutputReferenceIdeal.nD → PrngReg), Pre_OutputReferenceIdeal m →
    θ_run (Cert.OutputReferenceIdeal.defs (F := Ideal)) (onTc (τ := Cert.OutputReferenceIdeal.τ) (Cert.OutputReferenceIdeal.main (F := Ideal))) ⟨m, fun _ => 0, g⟩ (fun r => (∀ c : Dev Cert.OutputReferenceIdeal.nD,
      r.2.mem ((c.tc : Thread Cert.OutputReferenceIdeal.nD Cert.OutputReferenceIdeal.τ).loc Cert.OutputReferenceIdeal.main_arg0) = m ((c.tc : Thread Cert.OutputReferenceIdeal.nD Cert.OutputReferenceIdeal.τ).loc Cert.OutputReferenceIdeal.main_arg0)
      ∧ r.2.mem ((c.tc : Thread Cert.OutputReferenceIdeal.nD Cert.OutputReferenceIdeal.τ).loc Cert.OutputReferenceIdeal.main_arg1) = m ((c.tc : Thread Cert.OutputReferenceIdeal.nD Cert.OutputReferenceIdeal.τ).loc Cert.OutputReferenceIdeal.main_arg1)
      ∧ r.2.mem ((c.tc : Thread Cert.OutputReferenceIdeal.nD Cert.OutputReferenceIdeal.τ).loc Cert.OutputReferenceIdeal.main_arg2) = m ((c.tc : Thread Cert.OutputReferenceIdeal.nD Cert.OutputReferenceIdeal.τ).loc Cert.OutputReferenceIdeal.main_arg2)
      ∧ r.2.mem ((c.tc : Thread Cert.OutputReferenceIdeal.nD Cert.OutputReferenceIdeal.τ).loc Cert.OutputReferenceIdeal.main_arg3) = m ((c.tc : Thread Cert.OutputReferenceIdeal.nD Cert.OutputReferenceIdeal.τ).loc Cert.OutputReferenceIdeal.main_arg3)
      ∧ r.2.mem ((c.tc : Thread Cert.OutputReferenceIdeal.nD Cert.OutputReferenceIdeal.τ).loc Cert.OutputReferenceIdeal.main_arg4) = m ((c.tc : Thread Cert.OutputReferenceIdeal.nD Cert.OutputReferenceIdeal.τ).loc Cert.OutputReferenceIdeal.main_arg4)
      ∧ r.2.mem ((c.tc : Thread Cert.OutputReferenceIdeal.nD Cert.OutputReferenceIdeal.τ).loc Cert.OutputReferenceIdeal.main_arg5) = m ((c.tc : Thread Cert.OutputReferenceIdeal.nD Cert.OutputReferenceIdeal.τ).loc Cert.OutputReferenceIdeal.main_arg5)
      ∧ r.2.mem ((c.tc : Thread Cert.OutputReferenceIdeal.nD Cert.OutputReferenceIdeal.τ).loc Cert.OutputReferenceIdeal.main_arg6) = m ((c.tc : Thread Cert.OutputReferenceIdeal.nD Cert.OutputReferenceIdeal.τ).loc Cert.OutputReferenceIdeal.main_arg6))
      ∧ r.2.sem = fun _ => 0)

def quiescent_Recurrence [hRecurrence : Cert.Recurrence.Facts] : Prop :=
  ∀ (m : (ℓ : Loc Cert.Recurrence.nD Cert.Recurrence.τ Cert.Recurrence.sig) → Buf (Elt Bits) ℓ) (g : Dev Cert.Recurrence.nD → PrngReg), Pre_Recurrence m →
    θ_run (Cert.Recurrence.defs (F := Bits)) (onTc (τ := Cert.Recurrence.τ) (Cert.Recurrence.main (F := Bits))) ⟨m, fun _ => 0, g⟩ (fun r => (∀ c : Dev Cert.Recurrence.nD,
      r.2.mem ((c.tc : Thread Cert.Recurrence.nD Cert.Recurrence.τ).loc Cert.Recurrence.main_arg0) = m ((c.tc : Thread Cert.Recurrence.nD Cert.Recurrence.τ).loc Cert.Recurrence.main_arg0)
      ∧ r.2.mem ((c.tc : Thread Cert.Recurrence.nD Cert.Recurrence.τ).loc Cert.Recurrence.main_arg1) = m ((c.tc : Thread Cert.Recurrence.nD Cert.Recurrence.τ).loc Cert.Recurrence.main_arg1)
      ∧ r.2.mem ((c.tc : Thread Cert.Recurrence.nD Cert.Recurrence.τ).loc Cert.Recurrence.main_arg2) = m ((c.tc : Thread Cert.Recurrence.nD Cert.Recurrence.τ).loc Cert.Recurrence.main_arg2))
      ∧ r.2.sem = fun _ => 0)

def quiescent_RecurrenceIdeal [hRecurrenceIdeal : Cert.RecurrenceIdeal.Facts] : Prop :=
  ∀ (m : (ℓ : Loc Cert.RecurrenceIdeal.nD Cert.RecurrenceIdeal.τ Cert.RecurrenceIdeal.sig) → Buf (Elt Ideal) ℓ) (g : Dev Cert.RecurrenceIdeal.nD → PrngReg), Pre_RecurrenceIdeal m →
    θ_run (Cert.RecurrenceIdeal.defs (F := Ideal)) (onTc (τ := Cert.RecurrenceIdeal.τ) (Cert.RecurrenceIdeal.main (F := Ideal))) ⟨m, fun _ => 0, g⟩ (fun r => (∀ c : Dev Cert.RecurrenceIdeal.nD,
      r.2.mem ((c.tc : Thread Cert.RecurrenceIdeal.nD Cert.RecurrenceIdeal.τ).loc Cert.RecurrenceIdeal.main_arg0) = m ((c.tc : Thread Cert.RecurrenceIdeal.nD Cert.RecurrenceIdeal.τ).loc Cert.RecurrenceIdeal.main_arg0)
      ∧ r.2.mem ((c.tc : Thread Cert.RecurrenceIdeal.nD Cert.RecurrenceIdeal.τ).loc Cert.RecurrenceIdeal.main_arg1) = m ((c.tc : Thread Cert.RecurrenceIdeal.nD Cert.RecurrenceIdeal.τ).loc Cert.RecurrenceIdeal.main_arg1)
      ∧ r.2.mem ((c.tc : Thread Cert.RecurrenceIdeal.nD Cert.RecurrenceIdeal.τ).loc Cert.RecurrenceIdeal.main_arg2) = m ((c.tc : Thread Cert.RecurrenceIdeal.nD Cert.RecurrenceIdeal.τ).loc Cert.RecurrenceIdeal.main_arg2))
      ∧ r.2.sem = fun _ => 0)

def preserves_Kernel_KernelIdeal : Prop :=
  True

def algebraic_KernelIdeal_ReferenceIdeal_pre_gains_finite [hKernelIdeal : Cert.KernelIdeal.Facts] [hReferenceIdeal : Cert.ReferenceIdeal.Facts] [hPre_gains_finite : Cert.Pre_gains_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gains_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)
      ∧ m' ((c.tc : Thread Cert.FfnUpReferenceIdeal.nD Cert.FfnUpReferenceIdeal.τ).loc Cert.FfnUpReferenceIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v2) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v18) = v0 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1)
          ∧ r.2.mem ((c.tc : Thread Cert.FfnUpReferenceIdeal.nD Cert.FfnUpReferenceIdeal.τ).loc Cert.FfnUpReferenceIdeal.main_arg2) = m' ((c.tc : Thread Cert.FfnUpReferenceIdeal.nD Cert.FfnUpReferenceIdeal.τ).loc Cert.FfnUpReferenceIdeal.main_arg2))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v2) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)) →
    ∃ (v0 : (c : Dev Cert.ProjectionIdeal.nD) → Buf (Elt Ideal) ((c.tc : Thread Cert.ProjectionIdeal.nD Cert.ProjectionIdeal.τ).loc Cert.ProjectionIdeal.main_v2)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v2) = v0 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v13) = v0 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2))

def preserves_Output_OutputIdeal : Prop :=
  True

def algebraic_OutputIdeal_OutputReferenceIdeal [hOutputIdeal : Cert.OutputIdeal.Facts] [hOutputReferenceIdeal : Cert.OutputReferenceIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputReferenceIdeal.nD Cert.OutputReferenceIdeal.τ Cert.OutputReferenceIdeal.sig) → Buf (Elt Ideal) ℓ) (g' : Dev Cert.OutputReferenceIdeal.nD → PrngReg), Pre_OutputIdeal m →
    (∀ c : Dev Cert.OutputIdeal.nD,
      m' ((c.tc : Thread Cert.OutputReferenceIdeal.nD Cert.OutputReferenceIdeal.τ).loc Cert.OutputReferenceIdeal.main_arg0) = m ((c.tc : Thread Cert.OutputIdeal.nD Cert.OutputIdeal.τ).loc Cert.OutputIdeal.main_arg0)
      ∧ m' ((c.tc : Thread Cert.OutputReferenceIdeal.nD Cert.OutputReferenceIdeal.τ).loc Cert.OutputReferenceIdeal.main_arg1) = m ((c.tc : Thread Cert.OutputIdeal.nD Cert.OutputIdeal.τ).loc Cert.OutputIdeal.main_arg1)
      ∧ m' ((c.tc : Thread Cert.OutputReferenceIdeal.nD Cert.OutputReferenceIdeal.τ).loc Cert.OutputReferenceIdeal.main_arg2) = m ((c.tc : Thread Cert.OutputIdeal.nD Cert.OutputIdeal.τ).loc Cert.OutputIdeal.main_arg2)
      ∧ m' ((c.tc : Thread Cert.OutputReferenceIdeal.nD Cert.OutputReferenceIdeal.τ).loc Cert.OutputReferenceIdeal.main_arg3) = m ((c.tc : Thread Cert.OutputIdeal.nD Cert.OutputIdeal.τ).loc Cert.OutputIdeal.main_arg3)
      ∧ m' ((c.tc : Thread Cert.OutputReferenceIdeal.nD Cert.OutputReferenceIdeal.τ).loc Cert.OutputReferenceIdeal.main_arg4) = m ((c.tc : Thread Cert.OutputIdeal.nD Cert.OutputIdeal.τ).loc Cert.OutputIdeal.main_arg4)
      ∧ m' ((c.tc : Thread Cert.OutputReferenceIdeal.nD Cert.OutputReferenceIdeal.τ).loc Cert.OutputReferenceIdeal.main_arg5) = m ((c.tc : Thread Cert.OutputIdeal.nD Cert.OutputIdeal.τ).loc Cert.OutputIdeal.main_arg5)
      ∧ m' ((c.tc : Thread Cert.OutputReferenceIdeal.nD Cert.OutputReferenceIdeal.τ).loc Cert.OutputReferenceIdeal.main_arg6) = m ((c.tc : Thread Cert.OutputIdeal.nD Cert.OutputIdeal.τ).loc Cert.OutputIdeal.main_arg6)) →
    ∃ (v0 : (c : Dev Cert.OutputIdeal.nD) → Buf (Elt Ideal) ((c.tc : Thread Cert.OutputIdeal.nD Cert.OutputIdeal.τ).loc Cert.OutputIdeal.main_v3)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v3) = v0 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
          ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
          ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6))
      ∧ θ_run (Cert.OutputReferenceIdeal.defs (F := Ideal)) (onTc (τ := Cert.OutputReferenceIdeal.τ) (Cert.OutputReferenceIdeal.main (F := Ideal))) ⟨m', fun _ => 0, g'⟩ (fun r => ∀ c : Dev Cert.OutputReferenceIdeal.nD,
          r.2.mem ((c.tc : Thread Cert.OutputReferenceIdeal.nD Cert.OutputReferenceIdeal.τ).loc Cert.OutputReferenceIdeal.main_v4) = v0 c
          ∧ r.2.mem ((c.tc : Thread Cert.OutputReferenceIdeal.nD Cert.OutputReferenceIdeal.τ).loc Cert.OutputReferenceIdeal.main_arg0) = m' ((c.tc : Thread Cert.OutputReferenceIdeal.nD Cert.OutputReferenceIdeal.τ).loc Cert.OutputReferenceIdeal.main_arg0)
          ∧ r.2.mem ((c.tc : Thread Cert.OutputReferenceIdeal.nD Cert.OutputReferenceIdeal.τ).loc Cert.OutputReferenceIdeal.main_arg1) = m' ((c.tc : Thread Cert.OutputReferenceIdeal.nD Cert.OutputReferenceIdeal.τ).loc Cert.OutputReferenceIdeal.main_arg1)
          ∧ r.2.mem ((c.tc : Thread Cert.OutputReferenceIdeal.nD Cert.OutputReferenceIdeal.τ).loc Cert.OutputReferenceIdeal.main_arg2) = m' ((c.tc : Thread Cert.OutputReferenceIdeal.nD Cert.OutputReferenceIdeal.τ).loc Cert.OutputReferenceIdeal.main_arg2)
          ∧ r.2.mem ((c.tc : Thread Cert.OutputReferenceIdeal.nD Cert.OutputReferenceIdeal.τ).loc Cert.OutputReferenceIdeal.main_arg3) = m' ((c.tc : Thread Cert.OutputReferenceIdeal.nD Cert.OutputReferenceIdeal.τ).loc Cert.OutputReferenceIdeal.main_arg3)
          ∧ r.2.mem ((c.tc : Thread Cert.OutputReferenceIdeal.nD Cert.OutputReferenceIdeal.τ).loc Cert.OutputReferenceIdeal.main_arg4) = m' ((c.tc : Thread Cert.OutputReferenceIdeal.nD Cert.OutputReferenceIdeal.τ).loc Cert.OutputReferenceIdeal.main_arg4)
          ∧ r.2.mem ((c.tc : Thread Cert.OutputReferenceIdeal.nD Cert.OutputReferenceIdeal.τ).loc Cert.OutputReferenceIdeal.main_arg5) = m' ((c.tc : Thread Cert.OutputReferenceIdeal.nD Cert.OutputReferenceIdeal.τ).loc Cert.OutputReferenceIdeal.main_arg5)
          ∧ r.2.mem ((c.tc : Thread Cert.OutputReferenceIdeal.nD Cert.OutputReferenceIdeal.τ).loc Cert.OutputReferenceIdeal.main_arg6) = m' ((c.tc : Thread Cert.OutputReferenceIdeal.nD Cert.OutputReferenceIdeal.τ).loc Cert.OutputReferenceIdeal.main_arg6))

def preserves_Recurrence_RecurrenceIdeal : Prop :=
  True

def Claim : Prop :=
  ∃ (hKernel : Cert.Kernel.Facts) (hKernelIdeal : Cert.KernelIdeal.Facts) (hReferenceIdeal : Cert.ReferenceIdeal.Facts) (hFfnUp : Cert.FfnUp.Facts) (hFfnUpIdeal : Cert.FfnUpIdeal.Facts) (hFfnUpReferenceIdeal : Cert.FfnUpReferenceIdeal.Facts) (hFfnDown : Cert.FfnDown.Facts) (hFfnDownIdeal : Cert.FfnDownIdeal.Facts) (hFfnDownReferenceIdeal : Cert.FfnDownReferenceIdeal.Facts) (hProjection : Cert.Projection.Facts) (hProjectionIdeal : Cert.ProjectionIdeal.Facts) (hProjectionReferenceIdeal : Cert.ProjectionReferenceIdeal.Facts) (hOutput : Cert.Output.Facts) (hOutputIdeal : Cert.OutputIdeal.Facts) (hOutputReferenceIdeal : Cert.OutputReferenceIdeal.Facts) (hRecurrence : Cert.Recurrence.Facts) (hRecurrenceIdeal : Cert.RecurrenceIdeal.Facts) (hPre_gains_finite : Cert.Pre_gains_finite.Facts),
    quiescent_Kernel (hKernel := hKernel)
    ∧ quiescent_KernelIdeal (hKernelIdeal := hKernelIdeal)
    ∧ quiescent_KernelIdeal_pre_gains_finite (hKernelIdeal := hKernelIdeal) (hPre_gains_finite := hPre_gains_finite)
    ∧ quiescent_ReferenceIdeal (hReferenceIdeal := hReferenceIdeal)
    ∧ quiescent_ReferenceIdeal_pre_gains_finite (hReferenceIdeal := hReferenceIdeal) (hPre_gains_finite := hPre_gains_finite)
    ∧ quiescent_FfnUp (hFfnUp := hFfnUp)
    ∧ quiescent_FfnUpIdeal (hFfnUpIdeal := hFfnUpIdeal)
    ∧ quiescent_FfnUpReferenceIdeal (hFfnUpReferenceIdeal := hFfnUpReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ quiescent_Output (hOutput := hOutput)
    ∧ quiescent_OutputIdeal (hOutputIdeal := hOutputIdeal)
    ∧ quiescent_OutputReferenceIdeal (hOutputReferenceIdeal := hOutputReferenceIdeal)
    ∧ quiescent_Recurrence (hRecurrence := hRecurrence)
    ∧ quiescent_RecurrenceIdeal (hRecurrenceIdeal := hRecurrenceIdeal)
    ∧ preserves_Kernel_KernelIdeal
    ∧ algebraic_KernelIdeal_ReferenceIdeal_pre_gains_finite (hKernelIdeal := hKernelIdeal) (hReferenceIdeal := hReferenceIdeal) (hPre_gains_finite := hPre_gains_finite)
    ∧ preserves_FfnUp_FfnUpIdeal
    ∧ algebraic_FfnUpIdeal_FfnUpReferenceIdeal (hFfnUpIdeal := hFfnUpIdeal) (hFfnUpReferenceIdeal := hFfnUpReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_Projection_ProjectionIdeal
    ∧ algebraic_ProjectionIdeal_ProjectionReferenceIdeal (hProjectionIdeal := hProjectionIdeal) (hProjectionReferenceIdeal := hProjectionReferenceIdeal)
    ∧ preserves_Output_OutputIdeal
    ∧ algebraic_OutputIdeal_OutputReferenceIdeal (hOutputIdeal := hOutputIdeal) (hOutputReferenceIdeal := hOutputReferenceIdeal)
    ∧ preserves_Recurrence_RecurrenceIdeal
-- ==== Pre_gains_finite.lean ====
abbrev S16384x4864 : Shape := ⟨2, ![16384, 4864]⟩
abbrev S64 : Shape := ⟨1, ![64]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : FVec F S16384x4864 .f32) (main_arg1 : FVec F S64 .f32) (main_arg2 : FVec F S64 .f32) (main_arg3 : FVec F S64 .f32) : IVec S_ 1 :=
  let main_v0 : FVec F S64 .f32 := Host.absf main_arg1
  let main_cst : FVec F S_ .f32 := constant S_ .f32 0x7F800000#32
  let main_v1 : FVec F S64 .f32 := broadcastInDim S64 ![] bcast_S_S64 main_cst
  let main_v2 : IVec S64 1 := cmpf .olt main_v0 main_v1
  let main_c : IVec S_ 1 := constantI S_ 1 1#1
  let main_v3 : IVec S_ 1 := (fun x v => Host.reduce IntOp.andi x v reducesTo_S64_S_d0 h_S_) main_v2 main_c
  let main_v4 : FVec F S64 .f32 := Host.absf main_arg2
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  main_v8
-- ==== Kernel.lean ====
abbrev S16384x4864 : Shape := ⟨2, ![16384, 4864]⟩
abbrev S64 : Shape := ⟨1, ![64]⟩
abbrev S128x256 : Shape := ⟨2, ![128, 256]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S16384x384 : Shape := ⟨2, ![16384, 384]⟩
abbrev S128x128 : Shape := ⟨2, ![128, 128]⟩
abbrev S4096x128 : Shape := ⟨2, ![4096, 128]⟩
abbrev S32x256x128 : Shape := ⟨3, ![32, 256, 128]⟩
abbrev S256x128 : Shape := ⟨2, ![256, 128]⟩
abbrev S4096 : Shape := ⟨1, ![4096]⟩
abbrev S4096x1 : Shape := ⟨2, ![4096, 1]⟩
abbrev S32x128x128 : Shape := ⟨3, ![32, 128, 128]⟩
abbrev S1x1x128 : Shape := ⟨3, ![1, 1, 128]⟩
abbrev S128x1 : Shape := ⟨2, ![128, 1]⟩
abbrev S256x256 : Shape := ⟨2, ![256, 256]⟩
abbrev S1x256x128 : Shape := ⟨3, ![1, 256, 128]⟩

abbrev nBuf : Space → Nat
  | .hbm => 18
  | .vmem => 16
  | .smem => 0
  | _ => 0

abbrev bufTy : (tb : Table) → Fin (tcTables nBuf tb) → BufTy
  | .hbm, ⟨0, _⟩ => ⟨S16384x4864, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S128x256, .bf16⟩
  | .hbm, ⟨5, _⟩ => ⟨S1x64, .f32⟩
  | .hbm, ⟨6, _⟩ => ⟨S2x64, .f32⟩
  | .hbm, ⟨7, _⟩ => ⟨S128, .f32⟩
  | .hbm, ⟨8, _⟩ => ⟨S1x128, .f32⟩
  | .hbm, ⟨9, _⟩ => ⟨S1x64, .f32⟩
  | .hbm, ⟨10, _⟩ => ⟨S2x64, .f32⟩
  | .hbm, ⟨11, _⟩ => ⟨S128, .f32⟩
  | .hbm, ⟨12, _⟩ => ⟨S1x128, .f32⟩
  | .hbm, ⟨13, _⟩ => ⟨S1x64, .f32⟩
  | .hbm, ⟨14, _⟩ => ⟨S2x64, .f32⟩
  | .hbm, ⟨15, _⟩ => ⟨S128, .f32⟩
  | .hbm, ⟨16, _⟩ => ⟨S1x128, .f32⟩
  | .hbm, ⟨17, _⟩ => ⟨S16384x384, .bf16⟩
  | .local _ .vmem, ⟨0, _⟩ => ⟨S128x128, .f32⟩
  | .local _ .vmem, ⟨1, _⟩ => ⟨S128x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S128x256, .bf16⟩
  | .local _ .vmem, ⟨10, _⟩ => ⟨S128x128, .bf16⟩
  | .local _ .vmem, ⟨11, _⟩ => ⟨S128x128, .bf16⟩
  | .local _ .vmem, ⟨12, _⟩ => ⟨S4096x128, .bf16⟩
  | .local _ .vmem, ⟨13, _⟩ => ⟨S32x256x128, .bf16⟩
  | .local _ .vmem, ⟨14, _⟩ => ⟨S256x128, .f32⟩
  | .local _ .vmem, ⟨15, _⟩ => ⟨S128x128, .f32⟩
  | _, _ => ⟨S16384x4864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨3, ![4, 3, 32], ![false, false, false]⟩

def k0_mult1 (i : grid0.Coords) : BitVec 32 :=
  let arg2 : BitVec 32 := BitVec.ofNat 32 (i 2).val
  let c128_i32 : BitVec 32 := 128#32
  let v58 : BitVec 32 := Scalar.muli arg2 c128_i32
  v58
def k0_off1 (i : grid0.Coords) : Fin 2 → Nat :=
  let arg2 : BitVec 32 := BitVec.ofNat 32 (i 2).val
  let c128_i32 : BitVec 32 := 128#32
  let v58 : BitVec 32 := Scalar.muli arg2 c128_i32
  let v59 : BitVec 32 := v58
  let v60 : Index := Scalar.indexCast v59
  let c0_20 : Index := 0#32
  ![v60.toNat, 0]
def k0_off2 (i : grid0.Coords) : Fin 3 → Nat :=
  let arg2 : BitVec 32 := BitVec.ofNat 32 (i 2).val
  let v105 : Index := Scalar.indexCast arg2
  let c0_35 : Index := 0#32
  let c0_36 : Index := 0#32
  ![v105.toNat, 0, 0]
@[reducible] def k0_t1_loop (i : grid0.Coords) : Scf.Loop 32 :=
  let c0_i32_41 : BitVec 32 := 0#32
  let arg2 : BitVec 32 := BitVec.ofNat 32 (i 2).val
  let v113 : BitVec 32 := Scalar.subi arg2 c0_i32_41
  let c1_i32 : BitVec 32 := 1#32
  let v115 : BitVec 32 := Scalar.divsi v113 c1_i32
  let v116 : BitVec 32 := Scalar.muli v115 c1_i32
  let v117 : BitVec 32 := Scalar.addi c0_i32_41 v116
  let c1_i32_42 : BitVec 32 := 1#32
  ⟨c0_i32_41, v117, c1_i32_42⟩
def k0_mult2 (i : grid0.Coords) (k0_t1 : Fin (k0_t1_loop i).trips) : BitVec 32 :=
  let arg2 : BitVec 32 := BitVec.ofNat 32 (i 2).val
  let c1_i32_56 : BitVec 32 := 1#32
  let v151 : BitVec 32 := Scalar.subi arg2 c1_i32_56
  let c0_i32_41 : BitVec 32 := 0#32
  let c1_i32_42 : BitVec 32 := 1#32
  let arg15 : BitVec 32 := Scf.iv c0_i32_41 c1_i32_42 k0_t1
  let v152 : BitVec 32 := Scalar.subi v151 arg15
  let c128_i32_57 : BitVec 32 := 128#32
  let v153 : BitVec 32 := Scalar.muli v152 c128_i32_57
  v153
def k0_off3 (i : grid0.Coords) (k0_t1 : Fin (k0_t1_loop i).trips) : Fin 2 → Nat :=
  let arg2 : BitVec 32 := BitVec.ofNat 32 (i 2).val
  let c1_i32_56 : BitVec 32 := 1#32
  let v151 : BitVec 32 := Scalar.subi arg2 c1_i32_56
  let c0_i32_41 : BitVec 32 := 0#32
  let c1_i32_42 : BitVec 32 := 1#32
  let arg15 : BitVec 32 := Scf.iv c0_i32_41 c1_i32_42 k0_t1
  let v152 : BitVec 32 := Scalar.subi v151 arg15
  let c128_i32_57 : BitVec 32 := 128#32
  let v153 : BitVec 32 := Scalar.muli v152 c128_i32_57
  let v154 : BitVec 32 := v153
  let v155 : Index := Scalar.indexCast v154
  let c0_58 : Index := 0#32
  ![v155.toNat, 0]
def k0_off4 (i : grid0.Coords) (k0_t1 : Fin (k0_t1_loop i).trips) : Fin 3 → Nat :=
  let arg2 : BitVec 32 := BitVec.ofNat 32 (i 2).val
  let c1_i32_56 : BitVec 32 := 1#32
  let v151 : BitVec 32 := Scalar.subi arg2 c1_i32_56
  let c0_i32_41 : BitVec 32 := 0#32
  let c1_i32_42 : BitVec 32 := 1#32
  let arg15 : BitVec 32 := Scf.iv c0_i32_41 c1_i32_42 k0_t1
  let v152 : BitVec 32 := Scalar.subi v151 arg15
  let v191 : Index := Scalar.indexCast v152
  let c0_71 : Index := 0#32
  let c0_72 : Index := 0#32
  ![v191.toNat, 0, 0]
@[reducible] def k0_t2_loop (i : grid0.Coords) : Scf.Loop 32 :=
  let c0_i32_41 : BitVec 32 := 0#32
  let arg2 : BitVec 32 := BitVec.ofNat 32 (i 2).val
  let v113 : BitVec 32 := Scalar.subi arg2 c0_i32_41
  let c1_i32 : BitVec 32 := 1#32
  let v115 : BitVec 32 := Scalar.divsi v113 c1_i32
  let v116 : BitVec 32 := Scalar.muli v115 c1_i32
  let v117 : BitVec 32 := Scalar.addi c0_i32_41 v116
  let v114 : BitVec 32 := Scalar.addi c0_i32_41 v113
  let c1_i32_43 : BitVec 32 := 1#32
  ⟨v117, v114, c1_i32_43⟩
def k0_mult3 (i : grid0.Coords) (k0_t2 : Fin (k0_t2_loop i).trips) : BitVec 32 :=
  let arg2 : BitVec 32 := BitVec.ofNat 32 (i 2).val
  let c1_i32_56 : BitVec 32 := 1#32
  let v151 : BitVec 32 := Scalar.subi arg2 c1_i32_56
  let c0_i32_41 : BitVec 32 := 0#32
  let v113 : BitVec 32 := Scalar.subi arg2 c0_i32_41
  let c1_i32 : BitVec 32 := 1#32
  let v115 : BitVec 32 := Scalar.divsi v113 c1_i32
  let v116 : BitVec 32 := Scalar.muli v115 c1_i32
  let v117 : BitVec 32 := Scalar.addi c0_i32_41 v116
  let c1_i32_43 : BitVec 32 := 1#32
  let arg15 : BitVec 32 := Scf.iv v117 c1_i32_43 k0_t2
  let v152 : BitVec 32 := Scalar.subi v151 arg15
  let c128_i32_57 : BitVec 32 := 128#32
  let v153 : BitVec 32 := Scalar.muli v152 c128_i32_57
  v153
def k0_off5 (i : grid0.Coords) (k0_t2 : Fin (k0_t2_loop i).trips) : Fin 2 → Nat :=
  let arg2 : BitVec 32 := BitVec.ofNat 32 (i 2).val
  let c1_i32_56 : BitVec 32 := 1#32
  let v151 : BitVec 32 := Scalar.subi arg2 c1_i32_56
  let c0_i32_41 : BitVec 32 := 0#32
  let v113 : BitVec 32 := Scalar.subi arg2 c0_i32_41
  let c1_i32 : BitVec 32 := 1#32
  let v115 : BitVec 32 := Scalar.divsi v113 c1_i32
  let v116 : BitVec 32 := Scalar.muli v115 c1_i32
  let v117 : BitVec 32 := Scalar.addi c0_i32_41 v116
  let c1_i32_43 : BitVec 32 := 1#32
  let arg15 : BitVec 32 := Scf.iv v117 c1_i32_43 k0_t2
  let v152 : BitVec 32 := Scalar.subi v151 arg15
  let c128_i32_57 : BitVec 32 := 128#32
  let v153 : BitVec 32 := Scalar.muli v152 c128_i32_57
  let v154 : BitVec 32 := v153
  let v155 : Index := Scalar.indexCast v154
  let c0_58 : Index := 0#32
  ![v155.toNat, 0]
def k0_off6 (i : grid0.Coords) (k0_t2 : Fin (k0_t2_loop i).trips) : Fin 3 → Nat :=
  let arg2 : BitVec 32 := BitVec.ofNat 32 (i 2).val
  let c1_i32_56 : BitVec 32 := 1#32
  let v151 : BitVec 32 := Scalar.subi arg2 c1_i32_56
  let c0_i32_41 : BitVec 32 := 0#32
  let v113 : BitVec 32 := Scalar.subi arg2 c0_i32_41
  let c1_i32 : BitVec 32 := 1#32
  let v115 : BitVec 32 := Scalar.divsi v113 c1_i32
  let v116 : BitVec 32 := Scalar.muli v115 c1_i32
  let v117 : BitVec 32 := Scalar.addi c0_i32_41 v116
  let c1_i32_43 : BitVec 32 := 1#32
  let arg15 : BitVec 32 := Scf.iv v117 c1_i32_43 k0_t2
  let v152 : BitVec 32 := Scalar.subi v151 arg15
  let v191 : Index := Scalar.indexCast v152
  let c0_71 : Index := 0#32
  let c0_72 : Index := 0#32
  ![v191.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c28_i32 : BitVec 32 := 28#32
  let v2 : BitVec 32 := Scalar.addi c28_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.addi c31_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c34_i32 : BitVec 32 := 34#32
  let v0 : BitVec 32 := Scalar.addi c34_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S16384x4864 : Shape := ⟨2, ![16384, 4864]⟩
abbrev S64 : Shape := ⟨1, ![64]⟩
abbrev S16384x384 : Shape := ⟨2, ![16384, 384]⟩
abbrev S4x4096x6x64 : Shape := ⟨4, ![4, 4096, 6, 64]⟩
abbrev S4x6x4096x64 : Shape := ⟨4, ![4, 6, 4096, 64]⟩
abbrev S_ : Shape := ⟨0, ![]⟩
abbrev S4x6x4096 : Shape := ⟨3, ![4, 6, 4096]⟩
abbrev S4x6x4096x1 : Shape := ⟨4, ![4, 6, 4096, 1]⟩
abbrev S1x1x1x64 : Shape := ⟨4, ![1, 1, 1, 64]⟩
abbrev S4x6x4096x4096 : Shape := ⟨4, ![4, 6, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 124
  | .vmem => 0
  | .smem => 0
  | _ => 0

abbrev bufTy : (tb : Table) → Fin (tcTables nBuf tb) → BufTy
  | .hbm, ⟨0, _⟩ => ⟨S16384x4864, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S16384x384, .f32⟩
  | .hbm, ⟨5, _⟩ => ⟨S4x4096x6x64, .f32⟩
  | .hbm, ⟨6, _⟩ => ⟨S4x6x4096x64, .f32⟩
  | .hbm, ⟨7, _⟩ => ⟨S4x6x4096x64, .f32⟩
  | .hbm, ⟨8, _⟩ => ⟨S_, .f32⟩
  | .hbm, ⟨9, _⟩ => ⟨S4x6x4096, .f32⟩
  | .hbm, ⟨10, _⟩ => ⟨S4x6x4096x1, .f32⟩
  | .hbm, ⟨11, _⟩ => ⟨S_, .f32⟩
  | .hbm, ⟨12, _⟩ => ⟨S4x6x4096x1, .f32⟩
  | .hbm, ⟨13, _⟩ => ⟨S4x6x4096x1, .f32⟩
  | .hbm, ⟨14, _⟩ => ⟨S_, .f32⟩
  | .hbm, ⟨15, _⟩ => ⟨S4x6x4096x1, .f32⟩
  | .hbm, ⟨16, _⟩ => ⟨S4x6x4096x1, .f32⟩
  | .hbm, ⟨17, _⟩ => ⟨S4x6x4096x1, .f32⟩
  | .hbm, ⟨18, _⟩ => ⟨S4x6x4096x64, .f32⟩
  | .hbm, ⟨19, _⟩ => ⟨S4x6x4096x64, .f32⟩
  | .hbm, ⟨20, _⟩ => ⟨S1x1x1x64, .f32⟩
  | .hbm, ⟨21, _⟩ => ⟨S4x6x4096x64, .f32⟩
  | .hbm, ⟨22, _⟩ => ⟨S4x6x4096x64, .f32⟩
  | .hbm, ⟨23, _⟩ => ⟨S16384x384, .f32⟩
  | .hbm, ⟨24, _⟩ => ⟨S4x4096x6x64, .f32⟩
  | .hbm, ⟨25, _⟩ => ⟨S4x6x4096x64, .f32⟩
  | .hbm, ⟨26, _⟩ => ⟨S4x6x4096x64, .f32⟩
  | .hbm, ⟨27, _⟩ => ⟨S_, .f32⟩
  | .hbm, ⟨28, _⟩ => ⟨S4x6x4096, .f32⟩
  | .hbm, ⟨29, _⟩ => ⟨S4x6x4096x1, .f32⟩
  | .hbm, ⟨30, _⟩ => ⟨S_, .f32⟩
  | .hbm, ⟨31, _⟩ => ⟨S4x6x4096x1, .f32⟩
  | .hbm, ⟨32, _⟩ => ⟨S4x6x4096x1, .f32⟩
  | .hbm, ⟨33, _⟩ => ⟨S_, .f32⟩
  | .hbm, ⟨34, _⟩ => ⟨S4x6x4096x1, .f32⟩
  | .hbm, ⟨35, _⟩ => ⟨S4x6x4096x1, .f32⟩
  | .hbm, ⟨36, _⟩ => ⟨S4x6x4096x1, .f32⟩
  | .hbm, ⟨37, _⟩ => ⟨S4x6x4096x64, .f32⟩
  | .hbm, ⟨38, _⟩ => ⟨S4x6x4096x64, .f32⟩
  | .hbm, ⟨39, _⟩ => ⟨S1x1x1x64, .f32⟩
  | .hbm, ⟨40, _⟩ => ⟨S4x6x4096x64, .f32⟩
  | .hbm, ⟨41, _⟩ => ⟨S4x6x4096x64, .f32⟩
  | .hbm, ⟨42, _⟩ => ⟨S16384x384, .f32⟩
  | .hbm, ⟨43, _⟩ => ⟨S4x4096x6x64, .f32⟩
  | .hbm, ⟨44, _⟩ => ⟨S4x6x4096x64, .f32⟩
  | .hbm, ⟨45, _⟩ => ⟨S4x6x4096x4096, .f32⟩
  | .hbm, ⟨46, _⟩ => ⟨S_, .f32⟩
  | .hbm, ⟨47, _⟩ => ⟨S4x6x4096x4096, .f32⟩
  | .hbm, ⟨48, _⟩ => ⟨S4x6x4096x4096, .f32⟩
  | .hbm, ⟨49, _⟩ => ⟨S4096, .i32⟩
  | .hbm, ⟨50, _⟩ => ⟨S1x4096, .i32⟩
  | .hbm, ⟨51, _⟩ => ⟨S4096x1, .i32⟩
  | .hbm, ⟨52, _⟩ => ⟨S4096x4096, .i32⟩
  | .hbm, ⟨53, _⟩ => ⟨S4096x4096, .i32⟩
  | .hbm, ⟨54, _⟩ => ⟨S4096x4096, .i1⟩
  | .hbm, ⟨55, _⟩ => ⟨S4x6x4096x4096, .f32⟩
  | .hbm, ⟨56, _⟩ => ⟨S4x6x4096x4096, .f32⟩
  | .hbm, ⟨57, _⟩ => ⟨S_, .f32⟩
  | .hbm, ⟨58, _⟩ => ⟨S4x6x4096x4096, .f32⟩
  | .hbm, ⟨59, _⟩ => ⟨S4x6x4096x4096, .f32⟩
  | .hbm, ⟨60, _⟩ => ⟨S4x6x4096x4096, .f32⟩
  | .hbm, ⟨61, _⟩ => ⟨S4x6x4096x4096, .f32⟩
  | .hbm, ⟨62, _⟩ => ⟨S4x6x4096x4096, .i1⟩
  | .hbm, ⟨63, _⟩ => ⟨S4x6x4096x4096, .f32⟩
  | .hbm, ⟨64, _⟩ => ⟨S4x6x4096x4096, .f32⟩
  | .hbm, ⟨65, _⟩ => ⟨S4x6x4096x4096, .f32⟩
  | .hbm, ⟨66, _⟩ => ⟨S4x6x4096x4096, .f32⟩
  | .hbm, ⟨67, _⟩ => ⟨S4x6x4096x4096, .f32⟩
  | .hbm, ⟨68, _⟩ => ⟨S4x6x4096x4096, .f32⟩
  | .hbm, ⟨69, _⟩ => ⟨S4x6x4096x4096, .f32⟩
  | .hbm, ⟨70, _⟩ => ⟨S4x6x4096x4096, .f32⟩
  | .hbm, ⟨71, _⟩ => ⟨S4x6x4096x4096, .f32⟩
  | .hbm, ⟨72, _⟩ => ⟨S_, .f32⟩
  | .hbm, ⟨73, _⟩ => ⟨S_, .f32⟩
  | .hbm, ⟨74, _⟩ => ⟨S4x6x4096x4096, .i1⟩
  | .hbm, ⟨75, _⟩ => ⟨S4x6x4096x4096, .f32⟩
  | .hbm, ⟨76, _⟩ => ⟨S4x6x4096x4096, .f32⟩
  | .hbm, ⟨77, _⟩ => ⟨S_, .f32⟩
  | .hbm, ⟨78, _⟩ => ⟨S_, .f32⟩
  | .hbm, ⟨79, _⟩ => ⟨S4x6x4096x4096, .f32⟩
  | .hbm, ⟨80, _⟩ => ⟨S4x6x4096x4096, .f32⟩
  | .hbm, ⟨81, _⟩ => ⟨S4x6x4096x4096, .f32⟩
  | .hbm, ⟨82, _⟩ => ⟨S_, .f32⟩
  | .hbm, ⟨83, _⟩ => ⟨S4x6x4096x4096, .f32⟩
  | .hbm, ⟨84, _⟩ => ⟨S4x6x4096x4096, .f32⟩
  | .hbm, ⟨85, _⟩ => ⟨S4x6x4096x4096, .f32⟩
  | .hbm, ⟨86, _⟩ => ⟨S4x6x4096x4096, .f32⟩
  | .hbm, ⟨87, _⟩ => ⟨S4x6x4096x4096, .i1⟩
  | .hbm, ⟨88, _⟩ => ⟨S4x6x4096x4096, .f32⟩
  | .hbm, ⟨89, _⟩ => ⟨S4x6x4096x4096, .f32⟩
  | .hbm, ⟨90, _⟩ => ⟨S4x6x4096x4096, .f32⟩
  | .hbm, ⟨91, _⟩ => ⟨S4x6x4096x4096, .f32⟩
  | .hbm, ⟨92, _⟩ => ⟨S4x6x4096x4096, .f32⟩
  | .hbm, ⟨93, _⟩ => ⟨S4x6x4096x4096, .f32⟩
  | .hbm, ⟨94, _⟩ => ⟨S4x6x4096x4096, .f32⟩
  | .hbm, ⟨95, _⟩ => ⟨S4x6x4096x4096, .f32⟩
  | .hbm, ⟨96, _⟩ => ⟨S4x6x4096x4096, .f32⟩
  | .hbm, ⟨97, _⟩ => ⟨S4x6x4096x4096, .f32⟩
  | .hbm, ⟨98, _⟩ => ⟨S_, .f32⟩
  | .hbm, ⟨99, _⟩ => ⟨S_, .f32⟩
  | .hbm, ⟨100, _⟩ => ⟨S4x6x4096x4096, .i1⟩
  | .hbm, ⟨101, _⟩ => ⟨S4x6x4096x4096, .f32⟩
  | .hbm, ⟨102, _⟩ => ⟨S4x6x4096x4096, .f32⟩
  | .hbm, ⟨103, _⟩ => ⟨S4x6x4096x4096, .f32⟩
  | .hbm, ⟨104, _⟩ => ⟨S4x6x4096x64, .f32⟩
  | .hbm, ⟨105, _⟩ => ⟨S4x6x4096x64, .f32⟩
  | .hbm, ⟨106, _⟩ => ⟨S_, .f32⟩
  | .hbm, ⟨107, _⟩ => ⟨S4x6x4096, .f32⟩
  | .hbm, ⟨108, _⟩ => ⟨S4x6x4096x1, .f32⟩
  | .hbm, ⟨109, _⟩ => ⟨S_, .f32⟩
  | .hbm, ⟨110, _⟩ => ⟨S4x6x4096x1, .f32⟩
  | .hbm, ⟨111, _⟩ => ⟨S4x6x4096x1, .f32⟩
  | .hbm, ⟨112, _⟩ => ⟨S_, .f32⟩
  | .hbm, ⟨113, _⟩ => ⟨S4x6x4096x1, .f32⟩
  | .hbm, ⟨114, _⟩ => ⟨S4x6x4096x1, .f32⟩
  | .hbm, ⟨115, _⟩ => ⟨S4x6x4096x1, .f32⟩
  | .hbm, ⟨116, _⟩ => ⟨S4x6x4096x64, .f32⟩
  | .hbm, ⟨117, _⟩ => ⟨S4x6x4096x64, .f32⟩
  | .hbm, ⟨118, _⟩ => ⟨S1x1x1x64, .f32⟩
  | .hbm, ⟨119, _⟩ => ⟨S4x6x4096x64, .f32⟩
  | .hbm, ⟨120, _⟩ => ⟨S4x6x4096x64, .f32⟩
  | .hbm, ⟨121, _⟩ => ⟨S4x4096x6x64, .f32⟩
  | .hbm, ⟨122, _⟩ => ⟨S16384x384, .f32⟩
  | .hbm, ⟨123, _⟩ => ⟨S16384x384, .bf16⟩
  | _, _ => ⟨S16384x4864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_call0_v0 : Ref sig .tc := ⟨.hbm, 56, rfl⟩
abbrev main_call0_call0_cst : Ref sig .tc := ⟨.hbm, 57, rfl⟩
abbrev main_call0_call0_v0 : Ref sig .tc := ⟨.hbm, 58, rfl⟩
abbrev main_call0_call0_v1 : Ref sig .tc := ⟨.hbm, 59, rfl⟩
abbrev main_call0_call0_v2 : Ref sig .tc := ⟨.hbm, 60, rfl⟩
abbrev main_call0_call0_v3 : Ref sig .tc := ⟨.hbm, 61, rfl⟩
abbrev main_call0_call0_v4 : Ref sig .tc := ⟨.hbm, 62, rfl⟩
abbrev main_call0_call0_v5 : Ref sig .tc := ⟨.hbm, 63, rfl⟩
abbrev main_call0_call0_v6 : Ref sig .tc := ⟨.hbm, 64, rfl⟩
abbrev main_call0_call0_v7 : Ref sig .tc := ⟨.hbm, 65, rfl⟩
abbrev main_call0_call0_v8 : Ref sig .tc := ⟨.hbm, 66, rfl⟩
abbrev main_call0_call0_v9 : Ref sig .tc := ⟨.hbm, 67, rfl⟩
abbrev main_call0_call0_v10 : Ref sig .tc := ⟨.hbm, 68, rfl⟩
abbrev main_call0_call0_v11 : Ref sig .tc := ⟨.hbm, 69, rfl⟩
abbrev main_call0_v1 : Ref sig .tc := ⟨.hbm, 70, rfl⟩
abbrev main_v45 : Ref sig .tc := ⟨.hbm, 71, rfl⟩
abbrev main_cst_6 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v46 : Ref sig .tc := ⟨.hbm, 76, rfl⟩
abbrev main_call2_cst : Ref sig .tc := ⟨.hbm, 77, rfl⟩
abbrev main_call2_v0 : Ref sig .tc := ⟨.hbm, 78, rfl⟩
abbrev main_v47 : Ref sig .tc := ⟨.hbm, 79, rfl⟩
abbrev main_v48 : Ref sig .tc := ⟨.hbm, 80, rfl⟩
abbrev main_call3_v0 : Ref sig .tc := ⟨.hbm, 81, rfl⟩
abbrev main_call3_call0_cst : Ref sig .tc := ⟨.hbm, 82, rfl⟩
abbrev main_call3_call0_v0 : Ref sig .tc := ⟨.hbm, 83, rfl⟩
abbrev main_call3_call0_v1 : Ref sig .tc := ⟨.hbm, 84, rfl⟩
abbrev main_call3_call0_v2 : Ref sig .tc := ⟨.hbm, 85, rfl⟩
abbrev main_call3_call0_v3 : Ref sig .tc := ⟨.hbm, 86, rfl⟩
abbrev main_call3_call0_v4 : Ref sig .tc := ⟨.hbm, 87, rfl⟩
abbrev main_call3_call0_v5 : Ref sig .tc := ⟨.hbm, 88, rfl⟩
abbrev main_call3_call0_v6 : Ref sig .tc := ⟨.hbm, 89, rfl⟩
abbrev main_call3_call0_v7 : Ref sig .tc := ⟨.hbm, 90, rfl⟩
abbrev main_call3_call0_v8 : Ref sig .tc := ⟨.hbm, 91, rfl⟩
abbrev main_call3_call0_v9 : Ref sig .tc := ⟨.hbm, 92, rfl⟩
abbrev main_call3_call0_v10 : Ref sig .tc := ⟨.hbm, 93, rfl⟩
abbrev main_call3_call0_v11 : Ref sig .tc := ⟨.hbm, 94, rfl⟩
abbrev main_call3_v1 : Ref sig .tc := ⟨.hbm, 95, rfl⟩
abbrev main_v49 : Ref sig .tc := ⟨.hbm, 96, rfl⟩
abbrev main_v50 : Ref sig .tc := ⟨.hbm, 97, rfl⟩
abbrev main_cst_7 : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_cst_8 : Ref sig .tc := ⟨.hbm, 106, rfl⟩
abbrev main_v55 : Ref sig .tc := ⟨.hbm, 107, rfl⟩
abbrev main_v56 : Ref sig .tc := ⟨.hbm, 108, rfl⟩
abbrev main_cst_9 : Ref sig .tc := ⟨.hbm, 109, rfl⟩
abbrev main_v57 : Ref sig .tc := ⟨.hbm, 110, rfl⟩
abbrev main_v58 : Ref sig .tc := ⟨.hbm, 111, rfl⟩
abbrev main_cst_10 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩

abbrev nD : Nat := 1
abbrev τ : Topo := Topo.v7x

variable {F : FTy → Type} [FloatOps F]
-- ==== FfnUp.lean ====
abbrev S16384x1024 : Shape := ⟨2, ![16384, 1024]⟩
abbrev S1024 : Shape := ⟨1, ![1024]⟩
abbrev S1024x5632 : Shape := ⟨2, ![1024, 5632]⟩
abbrev S1x1024 : Shape := ⟨2, ![1, 1024]⟩
abbrev S16384x2816 : Shape := ⟨2, ![16384, 2816]⟩
abbrev S512x1024 : Shape := ⟨2, ![512, 1024]⟩
abbrev S1024x1408 : Shape := ⟨2, ![1024, 1408]⟩
abbrev S512x1408 : Shape := ⟨2, ![512, 1408]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S1024x5632, .bf16⟩
  | .hbm, ⟨4, _⟩ => ⟨S1x1024, .f32⟩
  | .hbm, ⟨5, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnUpReferenceIdeal.lean ====
abbrev S16384x1024 : Shape := ⟨2, ![16384, 1024]⟩
abbrev S1024 : Shape := ⟨1, ![1024]⟩
abbrev S1024x5632 : Shape := ⟨2, ![1024, 5632]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x5632, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S_, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== FfnDown.lean ====
abbrev S16384x1024 : Shape := ⟨2, ![16384, 1024]⟩
abbrev S16384x2816 : Shape := ⟨2, ![16384, 2816]⟩
abbrev S2816x1024 : Shape := ⟨2, ![2816, 1024]⟩
abbrev S512x1024 : Shape := ⟨2, ![512, 1024]⟩
abbrev S512x2816 : Shape := ⟨2, ![512, 2816]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x2816, .bf16⟩
  | .hbm, ⟨2, _⟩ => ⟨S2816x1024, .f32⟩
  | .hbm, ⟨3, _⟩ => ⟨S2816x1024, .bf16⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnDownReferenceIdeal.lean ====
abbrev S16384x1024 : Shape := ⟨2, ![16384, 1024]⟩
abbrev S16384x2816 : Shape := ⟨2, ![16384, 2816]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .bf16⟩
  | .hbm, ⟨2, _⟩ => ⟨S2816x1024, .f32⟩
  | .hbm, ⟨3, _⟩ => ⟨S16384x2816, .f32⟩
  | .hbm, ⟨4, _⟩ => ⟨S16384x1024, .f32⟩
  | .hbm, ⟨5, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Projection.lean ====
abbrev S16384x1024 : Shape := ⟨2, ![16384, 1024]⟩
abbrev S1024 : Shape := ⟨1, ![1024]⟩
abbrev S1024x4864 : Shape := ⟨2, ![1024, 4864]⟩
abbrev S1x1024 : Shape := ⟨2, ![1, 1024]⟩
abbrev S16384x4864 : Shape := ⟨2, ![16384, 4864]⟩
abbrev S512x1024 : Shape := ⟨2, ![512, 1024]⟩
abbrev S1024x2432 : Shape := ⟨2, ![1024, 2432]⟩
abbrev S512x2432 : Shape := ⟨2, ![512, 2432]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4864, .f32⟩
  | .hbm, ⟨3, _⟩ => ⟨S1024x4864, .bf16⟩
  | .hbm, ⟨4, _⟩ => ⟨S1x1024, .f32⟩
  | .hbm, ⟨5, _⟩ => ⟨S16384x4864, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2432, .bf16⟩
  | .local _ .vmem, ⟨4, _⟩ => ⟨S1024x2432, .bf16⟩
  | .local _ .vmem, ⟨5, _⟩ => ⟨S512x2432, .f32⟩
  | .local _ .vmem, ⟨6, _⟩ => ⟨S512x2432, .f32⟩
  | .local _ .vmem, ⟨7, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2432 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjectionReferenceIdeal.lean ====
abbrev S16384x1024 : Shape := ⟨2, ![16384, 1024]⟩
abbrev S1024 : Shape := ⟨1, ![1024]⟩
abbrev S1024x4864 : Shape := ⟨2, ![1024, 4864]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4864 : Shape := ⟨2, ![16384, 4864]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4864, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x4864, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Output.lean ====
abbrev S16384x1024 : Shape := ⟨2, ![16384, 1024]⟩
abbrev S16384x512 : Shape := ⟨2, ![16384, 512]⟩
abbrev S16384x384 : Shape := ⟨2, ![16384, 384]⟩
abbrev S512x1024 : Shape := ⟨2, ![512, 1024]⟩
abbrev S384x1024 : Shape := ⟨2, ![384, 1024]⟩
abbrev S1024x1024 : Shape := ⟨2, ![1024, 1024]⟩
abbrev S1024x512 : Shape := ⟨2, ![1024, 512]⟩
abbrev S1024x384 : Shape := ⟨2, ![1024, 384]⟩

abbrev nBuf : Space → Nat
  | .hbm => 11
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x384, .bf16⟩
  | .hbm, ⟨3, _⟩ => ⟨S16384x512, .bf16⟩
  | .hbm, ⟨4, _⟩ => ⟨S512x1024, .f32⟩
  | .hbm, ⟨5, _⟩ => ⟨S384x1024, .f32⟩
  | .hbm, ⟨6, _⟩ => ⟨S512x1024, .f32⟩
  | .hbm, ⟨7, _⟩ => ⟨S512x1024, .bf16⟩
  | .hbm, ⟨8, _⟩ => ⟨S384x1024, .bf16⟩
  | .hbm, ⟨9, _⟩ => ⟨S512x1024, .bf16⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x384, .bf16⟩
  | .local _ .vmem, ⟨5, _⟩ => ⟨S1024x384, .bf16⟩
  | .local _ .vmem, ⟨6, _⟩ => ⟨S1024x512, .bf16⟩
  | .local _ .vmem, ⟨7, _⟩ => ⟨S1024x512, .bf16⟩
  | .local _ .vmem, ⟨8, _⟩ => ⟨S512x1024, .bf16⟩
  | .local _ .vmem, ⟨9, _⟩ => ⟨S384x1024, .bf16⟩
  | .local _ .vmem, ⟨10, _⟩ => ⟨S512x1024, .bf16⟩
  | .local _ .vmem, ⟨11, _⟩ => ⟨S1024x1024, .f32⟩
  | .local _ .vmem, ⟨12, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutputReferenceIdeal.lean ====
abbrev S16384x1024 : Shape := ⟨2, ![16384, 1024]⟩
abbrev S16384x512 : Shape := ⟨2, ![16384, 512]⟩
abbrev S16384x384 : Shape := ⟨2, ![16384, 384]⟩
abbrev S512x1024 : Shape := ⟨2, ![512, 1024]⟩
abbrev S384x1024 : Shape := ⟨2, ![384, 1024]⟩
abbrev S16384x1408 : Shape := ⟨2, ![16384, 1408]⟩
abbrev S1408x1024 : Shape := ⟨2, ![1408, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x384, .bf16⟩
  | .hbm, ⟨3, _⟩ => ⟨S16384x512, .bf16⟩
  | .hbm, ⟨4, _⟩ => ⟨S512x1024, .f32⟩
  | .hbm, ⟨5, _⟩ => ⟨S384x1024, .f32⟩
  | .hbm, ⟨6, _⟩ => ⟨S512x1024, .f32⟩
  | .hbm, ⟨7, _⟩ => ⟨S16384x1408, .bf16⟩
  | .hbm, ⟨8, _⟩ => ⟨S16384x1408, .f32⟩
  | .hbm, ⟨9, _⟩ => ⟨S1408x1024, .f32⟩
  | .hbm, ⟨10, _⟩ => ⟨S16384x1024, .f32⟩
  | .hbm, ⟨11, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩

abbrev nD : Nat := 1
abbrev τ : Topo := Topo.v7x

variable {F : FTy → Type} [FloatOps F]
-- ==== Recurrence.lean ====
abbrev S16384x4864 : Shape := ⟨2, ![16384, 4864]⟩
abbrev S2x512 : Shape := ⟨2, ![2, 512]⟩
abbrev S64 : Shape := ⟨1, ![64]⟩
abbrev S1152x128 : Shape := ⟨2, ![1152, 128]⟩
abbrev S_ : Shape := ⟨0, ![]⟩
abbrev S128 : Shape := ⟨1, ![128]⟩
abbrev S1x128 : Shape := ⟨2, ![1, 128]⟩
abbrev S16384x512 : Shape := ⟨2, ![16384, 512]⟩
abbrev S128x512 : Shape := ⟨2, ![128, 512]⟩
abbrev S4x128x128 : Shape := ⟨3, ![4, 128, 128]⟩
abbrev S1x512 : Shape := ⟨2, ![1, 512]⟩
abbrev S1152x512 : Shape := ⟨2, ![1152, 512]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 9
  | .vmem => 14
  | .smem => 0
  | _ => 0

abbrev bufTy : (tb : Table) → Fin (tcTables nBuf tb) → BufTy
  | .hbm, ⟨0, _⟩ => ⟨S16384x4864, .f32⟩
  | .hbm, ⟨1, _⟩ => ⟨S2x512, .f32⟩
  | .hbm, ⟨2, _⟩ => ⟨S64, .f32⟩
  | .hbm, ⟨3, _⟩ => ⟨S1152x128, .bf16⟩
  | .hbm, ⟨4, _⟩ => ⟨S_, .i32⟩
  | .hbm, ⟨5, _⟩ => ⟨S_, .f32⟩
  | .hbm, ⟨6, _⟩ => ⟨S128, .f32⟩
  | .hbm, ⟨7, _⟩ => ⟨S1x128, .f32⟩
  | .hbm, ⟨8, _⟩ => ⟨S16384x512, .bf16⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S2x512, .f32⟩
  | .local _ .vmem, ⟨9, _⟩ => ⟨S1x128, .f32⟩
  | .local _ .vmem, ⟨10, _⟩ => ⟨S1152x128, .bf16⟩
  | .local _ .vmem, ⟨11, _⟩ => ⟨S128x512, .bf16⟩
  | .local _ .vmem, ⟨12, _⟩ => ⟨S128x512, .bf16⟩
  | .local _ .vmem, ⟨13, _⟩ => ⟨S4x128x128, .f32⟩
  | _, _ => ⟨S16384x4864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c3_i32 : BitVec 32 := 3#32
  let c0_i32 : BitVec 32 := 0#32
  ![v1.toNat, c3_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c4_i32 : BitVec 32 := 4#32
  let c0_i32 : BitVec 32 := 0#32
  ![v1.toNat, c4_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c5_i32 : BitVec 32 := 5#32
  let c0_i32 : BitVec 32 := 0#32
  ![v1.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1152x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Proof.Body.lean ====
/-
  What one grid point of the stick-breaking attention kernel leaves, as a function of the blocks it reads: the sweep
  over the key blocks (the diagonal one, then every earlier one, last first) carries the sum of the softplus values
  still to the right of a key and the weighted sum of the values, and the output block is the head-wise normalisation
  of the latter. Generic in the float algebra: nothing here is arithmetic.
-/
module

public import proofs.«01_k».proof.Proof.Gen.KernelIdeal.Value
public import Idealize.ShloMosaic.Lib.VecWindow
public import Idealize.ShloMosaic.Lib.LoopRemainder
public import Idealize.ShloMosaic.Lib.Pointwise
public import Idealize.ShloMosaic.Lib.Pipeline.ValueKit.Tiles

@[expose] public section

set_option maxRecDepth 16384

noncomputable section

namespace Cert.KernelIdeal.Body

open Idealize.ShloMosaic Idealize.ShloMosaic.TcCoe Idealize.ShloMosaic.Tactic
open Cert.KernelIdeal Cert.KernelIdeal.Gen

variable {F : FTy → Type} [FloatOps F]

/-! ## The sweep -/

/-- Rows `128 b … 128 b + 127` of the normalised keys. -/
def keyBlock (kn : Vec F S4096x128 .bf16) (b : Fin 32) : Vec F S128x128 .bf16 :=
  fun x => kn (ix2 ⟨128 * b.val + (x 0).val, by have := b.isLt; have : (x 0).val < 128 := (x 0).isLt; omega⟩ (x 1))

/-- Value block `b`: the head-masked values of the two heads, one above the other. -/
def valBlock (vm : Vec F S32x256x128 .bf16) (b : Fin 32) : Vec F S1x256x128 .bf16 := fun x => vm (ix3 b (x 1) (x 2))

/-- The two heads' queries, normalised and scaled, one above the other. -/
def queries (x0 : Vec F S128x128 .f32) (x3 : Vec F S1x128 .f32) : FVec F S256x128 .bf16 :=
  k0_pay20 k0_pay15 (k0_pay18 x0 x3) (Scalar.ofBits .f32 0x00000000#32) k0_pay19

/-- After the diagonal block: the softplus sums, from the sums `C` before it. -/
def diagSum (x0 : Vec F S128x128 .f32) (x3 : Vec F S1x128 .f32) (u : Vec F S128x256 .bf16) (kb : Vec F S128x128 .bf16)
    (C : Vec F S256x128 .f32) :
    FVec F S256x128 .f32 :=
  k0_pay29 u (k0_pay25 k0_pay15 (k0_pay18 x0 x3) (Scalar.ofBits .f32 0x00000000#32) k0_pay19 kb)
    (k0_pay26 k0_pay15 (k0_pay18 x0 x3) (Scalar.ofBits .f32 0x00000000#32) k0_pay19 kb)
    (k0_pay27 k0_pay15 (k0_pay18 x0 x3) (Scalar.ofBits .f32 0x00000000#32) k0_pay19 kb) C

/-- After the diagonal block: the weighted values, from the sums `C` and the values `A` before it. -/
def diagAcc (x0 : Vec F S128x128 .f32) (x3 : Vec F S1x128 .f32) (u : Vec F S128x256 .bf16) (kb : Vec F S128x128 .bf16)
    (vb : Vec F S1x256x128 .bf16) (C : Vec F S256x128 .f32) (A : Vec F S128x128 .f32) : FVec F S128x128 .f32 :=
  k0_pay30 u (k0_pay23 k0_pay15 (k0_pay18 x0 x3) (Scalar.ofBits .f32 0x00000000#32) k0_pay19 kb) k0_pay24
    (k0_pay25 k0_pay15 (k0_pay18 x0 x3) (Scalar.ofBits .f32 0x00000000#32) k0_pay19 kb)
    (k0_pay26 k0_pay15 (k0_pay18 x0 x3) (Scalar.ofBits .f32 0x00000000#32) k0_pay19 kb)
    (k0_pay27 k0_pay15 (k0_pay18 x0 x3) (Scalar.ofBits .f32 0x00000000#32) k0_pay19 kb) C A vb

/-- The normalised keys the first point of a head pair stores. -/
def keysOf (x1 : Vec F S4096x128 .f32) (x4 : Vec F S1x128 .f32) : Vec F S4096x128 .bf16 := k0_pay2 k0_pay15 x1 x4

/-- The head-masked values it stores. -/
def valsOf (x2 : Vec F S4096x128 .f32) : Vec F S32x256x128 .bf16 := fun x =>
  if h : (x 1).val < 128 then k0_pay16 (k0_pay4 k0_pay15 x2) (ix3 (x 0) ⟨(x 1).val, h⟩ (x 2))
  else k0_pay17 (k0_pay3 x2) (ix3 (x 0) ⟨(x 1).val - 128, by have : (x 1).val < 256 := (x 1).isLt; omega⟩ (x 2))

theorem diagSum_congr {x0 x0' : Vec F S128x128 .f32} {x3 x3' : Vec F S1x128 .f32} {u u' : Vec F S128x256 .bf16}
    {kb kb' : Vec F S128x128 .bf16} {C C' : Vec F S256x128 .f32} (h0 : x0 = x0') (h3 : x3 = x3') (hu : u = u') (hk : kb = kb')
    (hC : C = C') : diagSum x0 x3 u kb C = diagSum x0' x3' u' kb' C' := by
  rw [h0, h3, hu, hk, hC]

theorem diagAcc_congr {x0 x0' : Vec F S128x128 .f32} {x3 x3' : Vec F S1x128 .f32} {u u' : Vec F S128x256 .bf16}
    {kb kb' : Vec F S128x128 .bf16} {vb vb' : Vec F S1x256x128 .bf16} {C C' : Vec F S256x128 .f32} {A A' : Vec F S128x128 .f32}
    (h0 : x0 = x0') (h3 : x3 = x3') (hu : u = u') (hk : kb = kb') (hv : vb = vb') (hC : C = C') (hA : A = A') :
    diagAcc x0 x3 u kb vb C A = diagAcc x0' x3' u' kb' vb' C' A' := by
  rw [h0, h3, hu, hk, hv, hC, hA]

/-- The state after `n` of the earlier key blocks, for the query block `q`: softplus sums and weighted values. -/
def sweep (Q : FVec F S256x128 .bf16) (u : Vec F S128x256 .bf16) (kn : Vec F S4096x128 .bf16)
    (vm : Vec F S32x256x128 .bf16) (q : Fin 32) (s : FVec F S256x128 .f32 × FVec F S128x128 .f32) :
    ℕ → FVec F S256x128 .f32 × FVec F S128x128 .f32
  | 0 => s
  | n + 1 =>
    (k0_pay8 Q u (keyBlock kn ⟨q.val - 1 - n, by omega⟩) (sweep Q u kn vm q s n).1,
      k0_pay31 (k0_pay9 Q u (keyBlock kn ⟨q.val - 1 - n, by omega⟩) (sweep Q u kn vm q s n).1) (sweep Q u kn vm q s n).2
        (valBlock vm ⟨q.val - 1 - n, by omega⟩))

theorem sweep_succ (Q : FVec F S256x128 .bf16) (u : Vec F S128x256 .bf16) (kn : Vec F S4096x128 .bf16)
    (vm : Vec F S32x256x128 .bf16) (q : Fin 32) (s : FVec F S256x128 .f32 × FVec F S128x128 .f32) (n : ℕ) :
    sweep Q u kn vm q s (n + 1)
      = (k0_pay8 Q u (keyBlock kn ⟨q.val - 1 - n, by omega⟩) (sweep Q u kn vm q s n).1,
          k0_pay31 (k0_pay9 Q u (keyBlock kn ⟨q.val - 1 - n, by omega⟩) (sweep Q u kn vm q s n).1)
            (sweep Q u kn vm q s n).2 (valBlock vm ⟨q.val - 1 - n, by omega⟩)) := rfl

/-- The output block of one grid point. -/
def outBlock (q : Fin 32) (x0 : Vec F S128x128 .f32) (x3 x5 : Vec F S1x128 .f32) (u : Vec F S128x256 .bf16)
    (kn : Vec F S4096x128 .bf16) (vm : Vec F S32x256x128 .bf16) : FVec F S128x128 .bf16 :=
  k0_pay1 k0_pay15
    (sweep (queries x0 x3) u kn vm q (diagSum x0 x3 u (keyBlock kn q) k0_pay21, diagAcc x0 x3 u (keyBlock kn q) (valBlock vm q) k0_pay21 k0_pay22)
      q.val).2 x5

/-! ## Bounds and offsets -/

/-- The query block of a grid point. -/
def qblk (i : grid0.Coords) : Fin 32 := ⟨(i 2).val, (i 2).isLt⟩

theorem trips1 (i : grid0.Coords) : (k0_t1_loop i).trips = (i 2).val :=
  (by decide +kernel : ∀ q : Fin 32, Scf.trips 0#32
    (Scalar.addi 0#32 (Scalar.muli (Scalar.divsi (Scalar.subi (BitVec.ofNat 32 q.val) 0#32) 1#32) 1#32)) 1#32 = q.val) (i 2)

theorem trips2 (i : grid0.Coords) : (k0_t2_loop i).trips = 0 :=
  (by decide +kernel : ∀ q : Fin 32, Scf.trips
    (Scalar.addi 0#32 (Scalar.muli (Scalar.divsi (Scalar.subi (BitVec.ofNat 32 q.val) 0#32) 1#32) 1#32))
    (Scalar.addi 0#32 (Scalar.subi (BitVec.ofNat 32 q.val) 0#32)) 1#32 = 0) (i 2)

theorem off1_eq (i : grid0.Coords) : k0_off1 i = ![128 * (i 2).val, 0] := by
  have h := (by decide +kernel : ∀ q : Fin 32,
    (Scalar.indexCast (Scalar.muli (BitVec.ofNat 32 q.val) 128#32)).toNat = 128 * q.val) (i 2)
  show ![_, 0] = _
  rw [h]

theorem off2_eq (i : grid0.Coords) : k0_off2 i = ![(i 2).val, 0, 0] := by
  have h := (by decide +kernel : ∀ q : Fin 32, (Scalar.indexCast (BitVec.ofNat 32 q.val)).toNat = q.val) (i 2)
  show ![_, 0, 0] = _
  rw [h]

theorem off3_eq (i : grid0.Coords) (k : Fin (k0_t1_loop i).trips) : k0_off3 i k = ![128 * ((i 2).val - 1 - k.val), 0] := by
  have hk : k.val < (i 2).val := lt_of_lt_of_eq k.isLt (trips1 i)
  have hq : (i 2).val < 32 := (i 2).isLt
  have h := (by decide +kernel : ∀ q k : Fin 32, k.val < q.val →
    (Scalar.indexCast (Scalar.muli (Scalar.subi (Scalar.subi (BitVec.ofNat 32 q.val) 1#32) (Scf.iv 0#32 1#32 k.val)) 128#32)).toNat
      = 128 * (q.val - 1 - k.val)) (i 2) ⟨k.val, by omega⟩ hk
  show ![_, 0] = _
  rw [h]

theorem off4_eq (i : grid0.Coords) (k : Fin (k0_t1_loop i).trips) : k0_off4 i k = ![(i 2).val - 1 - k.val, 0, 0] := by
  have hk : k.val < (i 2).val := lt_of_lt_of_eq k.isLt (trips1 i)
  have hq : (i 2).val < 32 := (i 2).isLt
  have h := (by decide +kernel : ∀ q k : Fin 32, k.val < q.val →
    (Scalar.indexCast (Scalar.subi (Scalar.subi (BitVec.ofNat 32 q.val) 1#32) (Scf.iv 0#32 1#32 k.val))).toNat
      = q.val - 1 - k.val) (i 2) ⟨k.val, by omega⟩ hk
  show ![_, 0, 0] = _
  rw [h]

/-! ## One trip and the loops -/

section Loops

variable (arg3 : Memref sig .tc .vmem S128x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x256 .bf16) (harg9 : arg9.IsWhole) (arg10 : Memref sig .tc .vmem S128x128 .bf16) (harg10 : arg10.IsWhole) (arg11 : Memref sig .tc .vmem S4096x128 .bf16) (harg11 : arg11.IsWhole) (arg12 : Memref sig .tc .vmem S32x256x128 .bf16) (harg12 : arg12.IsWhole) (arg13 : Memref sig .tc .vmem S256x128 .f32) (harg13 : arg13.IsWhole) (arg14 : Memref sig .tc .vmem S128x128 .f32) (harg14 : arg14.IsWhole)

theorem readAt_key (X : BufTy.Contents (Elt F) arg11.view.ty) (b : Fin 32) (off : Fin 2 → ℕ) (h : off = ![128 * b.val, 0])
    (inb : ∀ a, off a + S128x128.size a ≤ S4096x128.size a) :
    arg11.view.readAt (Elt F) (Rect.unit (s := S4096x128) off S128x128.size inb).toLoadRect X
      = keyBlock (arg11.view.read (Elt F) X) b := by
  subst h
  rw [View.readAt_eq_ld]
  funext x
  refine View.ld_unit_apply_of _ _ _ _ _ _ fun a => ?_
  match a with
  | ⟨0, _⟩ => rfl
  | ⟨1, _⟩ => exact (Nat.zero_add _).symm

theorem readAt_val (X : BufTy.Contents (Elt F) arg12.view.ty) (b : Fin 32) (off : Fin 3 → ℕ) (h : off = ![b.val, 0, 0])
    (inb : ∀ a, off a + S1x256x128.size a ≤ S32x256x128.size a) :
    arg12.view.readAt (Elt F) (Rect.unit (s := S32x256x128) off S1x256x128.size inb).toLoadRect X
      = valBlock (arg12.view.read (Elt F) X) b := by
  subst h
  rw [View.readAt_eq_ld]
  funext x
  refine View.ld_unit_apply_of _ _ _ _ _ _ fun a => ?_
  match a with
  | ⟨0, _⟩ => have : (x 0).val < 1 := (x 0).isLt; show b.val = b.val + (x 0).val; omega
  | ⟨1, _⟩ => exact (Nat.zero_add _).symm
  | ⟨2, _⟩ => exact (Nat.zero_add _).symm

variable (𝒱 : Variants) (c : Dev nD) (bd : Option 𝒱.V) (i : grid0.Coords)
variable (arg2 : BitVec 32) (v48 : FVec F S256x128 .bf16) (v49 : Vec F S128x256 .bf16) (v62 : FVec F S256x128 .f32) (v77 : IVec S256x128 1) (v79 : FVec F S256x128 .f32) (v80 : FVec F S256x128 .bf16) (v81 : FVec F S256x128 .f32)
variable (X11 : BufTy.Contents (Elt F) arg11.view.ty) (X12 : BufTy.Contents (Elt F) arg12.view.ty)
variable (G13 : BufTy.Contents (Elt F) arg13.view.ty) (G14 : BufTy.Contents (Elt F) arg14.view.ty)

/-- One trip stores one step of the sweep. -/
theorem trip_eq (k : Fin (k0_t1_loop i).trips) :
    tripL_k0_t1 (F := F) 𝒱 c bd i arg3 harg3 arg4 harg4 arg5 harg5 arg6 harg6 arg7 harg7 arg8 harg8 arg9 harg9 arg10 harg10 arg11 harg11 arg12 harg12 arg13 harg13 arg14 harg14 arg2 v48 v49 v62 v77 v79 v80 v81 X11 X12 k G13 G14
      = ([⟨Rect.unit ![0, 0] S256x128.size inb_S256x128_S256x128_0_0,
            k0_pay8 v48 v49 (keyBlock (arg11.view.read (Elt F) X11) ⟨(qblk i).val - 1 - k.val, by omega⟩) (arg13.view.read (Elt F) G13)⟩],
          [⟨Rect.unit ![0, 0] S128x128.size inb_S128x128_S128x128_0_0,
            k0_pay31 (k0_pay9 v48 v49 (keyBlock (arg11.view.read (Elt F) X11) ⟨(qblk i).val - 1 - k.val, by omega⟩) (arg13.view.read (Elt F) G13))
              (arg14.view.read (Elt F) G14) (valBlock (arg12.view.read (Elt F) X12) ⟨(qblk i).val - 1 - k.val, by omega⟩)⟩]) := by
  have hA := readAt_key arg11 X11 ⟨(qblk i).val - 1 - k.val, by omega⟩ _ (off3_eq i k) (k0_off3_inb i k)
  have hB := readAt_val arg12 X12 ⟨(qblk i).val - 1 - k.val, by omega⟩ _ (off4_eq i k) (k0_off4_inb i k)
  have hC := View.readAt_full arg13.view G13 (off := ![0, 0]) inb_S256x128_S256x128_0_0
  have hD := View.readAt_full arg14.view G14 (off := ![0, 0]) inb_S128x128_S128x128_0_0
  rw [← hA, ← hB, ← hC, ← hD]
  unfold tripL_k0_t1 trip_k0_t1
  rfl

/-- The loop over the earlier key blocks leaves the sweep's state. -/
theorem loop_eq (n : ℕ) (hn : n ≤ (qblk i).val) :
    (arg13.view.read (Elt F) (arg13.view.writes (Elt F) G13 (pb_k0_t1 (F := F) 𝒱 c bd i arg3 harg3 arg4 harg4 arg5 harg5 arg6 harg6 arg7 harg7 arg8 harg8 arg9 harg9 arg10 harg10 arg11 harg11 arg12 harg12 arg13 harg13 arg14 harg14 arg2 v48 v49 v62 v77 v79 v80 v81 X11 X12 G13 G14 n).1),
      arg14.view.read (Elt F) (arg14.view.writes (Elt F) G14 (pb_k0_t1 (F := F) 𝒱 c bd i arg3 harg3 arg4 harg4 arg5 harg5 arg6 harg6 arg7 harg7 arg8 harg8 arg9 harg9 arg10 harg10 arg11 harg11 arg12 harg12 arg13 harg13 arg14 harg14 arg2 v48 v49 v62 v77 v79 v80 v81 X11 X12 G13 G14 n).2))
      = sweep v48 v49 (arg11.view.read (Elt F) X11) (arg12.view.read (Elt F) X12) (qblk i)
          (arg13.view.read (Elt F) G13, arg14.view.read (Elt F) G14) n := by
  induction n with
  | zero => rfl
  | succ n ih =>
    have hk : n < (k0_t1_loop i).trips := by rw [trips1]; exact hn
    have ih := ih (by omega)
    have h1 := congrArg Prod.fst ih
    have h2 := congrArg Prod.snd ih
    dsimp only at h1 h2
    rw [pb_k0_t1_succ (F := F) (k := ⟨n, hk⟩), trip_eq, sweep_succ, ← h1, ← h2]
    dsimp only
    rw [List.singleton_append, List.singleton_append, View.read_writes_full, View.read_writes_full]

/-- The second loop has no trip. -/
theorem rest_eq (v117 : BitVec 32) :
    pb_k0_t2 (F := F) 𝒱 c bd i arg3 harg3 arg4 harg4 arg5 harg5 arg6 harg6 arg7 harg7 arg8 harg8 arg9 harg9 arg10 harg10 arg11 harg11 arg12 harg12 arg13 harg13 arg14 harg14 arg2 v48 v49 v62 v77 v79 v80 v81 v117 X11 X12 G13 G14 (k0_t2_loop i).trips = ([], []) := by
  rw [trips2]; rfl

/-- What is loaded after the two loops, the pieces before them being `L13` and `L14`. -/
theorem load_eq (v117 : BitVec 32) (L13 : List (View.Piece (Elt F) S256x128 .f32)) (L14 : List (View.Piece (Elt F) S128x128 .f32))
    (Q : FVec F S256x128 .bf16) (u : Vec F S128x256 .bf16) (kn : Vec F S4096x128 .bf16) (vm : Vec F S32x256x128 .bf16)
    (s : FVec F S256x128 .f32 × FVec F S128x128 .f32) (hQ : v48 = Q) (hu : v49 = u) (hk : arg11.view.read (Elt F) X11 = kn)
    (hv : arg12.view.read (Elt F) X12 = vm) (h13 : arg13.view.read (Elt F) (arg13.view.writes (Elt F) arg13.view.junk L13) = s.1)
    (h14 : arg14.view.read (Elt F) (arg14.view.writes (Elt F) arg14.view.junk L14) = s.2) :
    arg14.view.readCov ((pb_k0_t2 (F := F) 𝒱 c bd i arg3 harg3 arg4 harg4 arg5 harg5 arg6 harg6 arg7 harg7 arg8 harg8 arg9 harg9 arg10 harg10 arg11 harg11 arg12 harg12 arg13 harg13 arg14 harg14 arg2 v48 v49 v62 v77 v79 v80 v81 v117 X11 X12
          (arg13.view.writes (Elt F) arg13.view.junk ((pb_k0_t1 (F := F) 𝒱 c bd i arg3 harg3 arg4 harg4 arg5 harg5 arg6 harg6 arg7 harg7 arg8 harg8 arg9 harg9 arg10 harg10 arg11 harg11 arg12 harg12 arg13 harg13 arg14 harg14 arg2 v48 v49 v62 v77 v79 v80 v81 X11 X12 (arg13.view.writes (Elt F) arg13.view.junk L13) (arg14.view.writes (Elt F) arg14.view.junk L14) (k0_t1_loop i).trips).1 ++ L13))
          (arg14.view.writes (Elt F) arg14.view.junk ((pb_k0_t1 (F := F) 𝒱 c bd i arg3 harg3 arg4 harg4 arg5 harg5 arg6 harg6 arg7 harg7 arg8 harg8 arg9 harg9 arg10 harg10 arg11 harg11 arg12 harg12 arg13 harg13 arg14 harg14 arg2 v48 v49 v62 v77 v79 v80 v81 X11 X12 (arg13.view.writes (Elt F) arg13.view.junk L13) (arg14.view.writes (Elt F) arg14.view.junk L14) (k0_t1_loop i).trips).2 ++ L14)) (k0_t2_loop i).trips).2
        ++ ((pb_k0_t1 (F := F) 𝒱 c bd i arg3 harg3 arg4 harg4 arg5 harg5 arg6 harg6 arg7 harg7 arg8 harg8 arg9 harg9 arg10 harg10 arg11 harg11 arg12 harg12 arg13 harg13 arg14 harg14 arg2 v48 v49 v62 v77 v79 v80 v81 X11 X12 (arg13.view.writes (Elt F) arg13.view.junk L13) (arg14.view.writes (Elt F) arg14.view.junk L14) (k0_t1_loop i).trips).2 ++ L14)) (Rect.unit (s := S128x128) ![0, 0] S128x128.size inb_S128x128_S128x128_0_0).toLoadRect
      = (sweep Q u kn vm (qblk i) s (qblk i).val).2 := by
  subst hQ hu hk hv
  rw [rest_eq]
  dsimp only
  rw [List.nil_append]
  unfold View.readCov
  rw [View.readAt_full, View.writes_append, trips1]
  refine (congrArg Prod.snd (loop_eq (F := F) arg3 harg3 arg4 harg4 arg5 harg5 arg6 harg6 arg7 harg7 arg8 harg8 arg9 harg9 arg10 harg10 arg11 harg11 arg12 harg12 arg13 harg13 arg14 harg14 𝒱 c bd i arg2 v48 v49 v62 v77 v79 v80 v81 X11 X12 _ _ (qblk i).val le_rfl)).trans ?_
  rw [h13, h14]

/-- A later point of a head pair: the keys and values are the scratch's. -/
theorem run_B (hc0 : ¬cond0_0 i)
    (x0 : Vec F S128x128 .f32) (x1 : Vec F S4096x128 .f32) (x2 : Vec F S4096x128 .f32) (x3 : Vec F S1x128 .f32) (x4 : Vec F S1x128 .f32) (x5 : Vec F S1x128 .f32) (x6 : Vec F S128x256 .bf16) (xs0 : Vec F S4096x128 .bf16) (xs1 : Vec F S32x256x128 .bf16) :
    out0_B_7 (F := F) c i arg3 harg3 arg4 harg4 arg5 harg5 arg6 harg6 arg7 harg7 arg8 harg8 arg9 harg9 arg10 harg10 arg11 harg11 arg12 harg12 arg13 harg13 arg14 harg14 hc0 x0 x1 x2 x3 x4 x5 x6 xs0 xs1 = outBlock (qblk i) x0 x3 x5 x6 xs0 xs1 := by
  have e0 : arg3.view.readAt (Elt F) (Rect.unit (s := S128x128) ![0, 0] S128x128.size inb_S128x128_S128x128_0_0).toLoadRect (harg3.unread x0) = x0 := by
    rw [View.readAt_full, harg3.read_unread]
  have e3 : arg6.view.readAt (Elt F) (Rect.unit (s := S1x128) ![0, 0] S1x128.size inb_S1x128_S1x128_0_0).toLoadRect (harg6.unread x3) = x3 := by
    rw [View.readAt_full, harg6.read_unread]
  have e5 : arg8.view.readAt (Elt F) (Rect.unit (s := S1x128) ![0, 0] S1x128.size inb_S1x128_S1x128_0_0).toLoadRect (harg8.unread x5) = x5 := by
    rw [View.readAt_full, harg8.read_unread]
  have e6 : arg9.view.readAt (Elt F) (Rect.unit (s := S128x256) ![0, 0] S128x256.size inb_S128x256_S128x256_0_0).toLoadRect (harg9.unread x6) = x6 := by
    rw [View.readAt_full, harg9.read_unread]
  have ek : arg11.view.readAt (Elt F) (Rect.unit (s := S4096x128) (k0_off1 i) S128x128.size (k0_off1_inb i)).toLoadRect (harg11.unread xs0) = keyBlock xs0 (qblk i) := by
    rw [readAt_key arg11 _ (qblk i) _ (off1_eq i), harg11.read_unread]
  have ev : arg12.view.readAt (Elt F) (Rect.unit (s := S32x256x128) (k0_off2 i) S1x256x128.size (k0_off2_inb i)).toLoadRect (harg12.unread xs1) = valBlock xs1 (qblk i) := by
    rw [readAt_val arg12 _ (qblk i) _ (off2_eq i), harg12.read_unread]
  have eC : arg13.view.readCov [(⟨Rect.unit (s := S256x128) ![0, 0] S256x128.size inb_S256x128_S256x128_0_0, k0_pay21 (F := F)⟩ : View.Piece (Elt F) S256x128 .f32)] (Rect.unit (s := S256x128) ![0, 0] S256x128.size inb_S256x128_S256x128_0_0).toLoadRect = k0_pay21 :=
    View.readCov_full _ _ _ _ _
  have eA : arg14.view.readCov [(⟨Rect.unit (s := S128x128) ![0, 0] S128x128.size inb_S128x128_S128x128_0_0, k0_pay22 (F := F)⟩ : View.Piece (Elt F) S128x128 .f32)] (Rect.unit (s := S128x128) ![0, 0] S128x128.size inb_S128x128_S128x128_0_0).toLoadRect = k0_pay22 :=
    View.readCov_full _ _ _ _ _
  unfold out0_B_7 kernelRun0_B
  dsimp only
  rw [View.read_writes_full]
  unfold outBlock
  refine congrArg₂ (k0_pay1 k0_pay15) ?_ e5
  refine load_eq arg3 harg3 arg4 harg4 arg5 harg5 arg6 harg6 arg7 harg7 arg8 harg8 arg9 harg9 arg10 harg10 arg11 harg11 arg12 harg12 arg13 harg13 arg14 harg14 _ c _ i _ _ _ _ _ _ _ _ _ _ _ _ _ _ _ _ _ _ ?_ ?_ (harg11.read_unread _) (harg12.read_unread _) ?_ ?_
  · exact congrArg₂ queries e0 e3
  · exact e6
  · refine (View.read_writes_full _ _ _ _ _).trans ?_
    exact diagSum_congr e0 e3 e6 ek eC
  · refine (View.read_writes_full _ _ _ _ _).trans ?_
    exact diagAcc_congr e0 e3 e6 ek ev eC eA

theorem keys_read {sp : Space} (v : View sig .tc sp S4096x128 .bf16) (f : BufTy.Contents (Elt F) v.ty) (x1 : Vec F S4096x128 .f32)
    (x4 : Vec F S1x128 .f32) :
    v.read (Elt F) (v.writes (Elt F) f [⟨Rect.unit ![0, 0] S4096x128.size inb_S4096x128_S4096x128_0_0, k0_pay2 k0_pay15 x1 x4⟩])
      = keysOf x1 x4 :=
  View.read_writes_full _ _ _ _ _

theorem vals_read {sp : Space} (v : View sig .tc sp S32x256x128 .bf16) (f : BufTy.Contents (Elt F) v.ty) (x2 : Vec F S4096x128 .f32) :
    v.read (Elt F) (v.writes (Elt F) f
        [⟨Rect.unit ![0, 128, 0] S32x128x128.size inb_S32x256x128_S32x128x128_0_128_0, k0_pay17 (k0_pay3 x2)⟩,
          ⟨Rect.unit ![0, 0, 0] S32x128x128.size inb_S32x256x128_S32x128x128_0_0_0, k0_pay16 (k0_pay4 k0_pay15 x2)⟩])
      = valsOf x2 := by
  funext x
  have h0 : (x 0).val < 32 := (x 0).isLt
  have h1 : (x 1).val < 256 := (x 1).isLt
  have h2 : (x 2).val < 128 := (x 2).isLt
  unfold valsOf
  by_cases h : (x 1).val < 128
  · rw [dif_pos h]
    refine (View.read_writes_cons_unit_of_not_mem (off' := ![0, 128, 0]) v f _ _ _ x rfl 1 (Or.inl h)).trans ?_
    refine View.read_writes_cons_unit_of_mem (off' := ![0, 0, 0]) v f _ _ _ x (ix3 (x 0) ⟨(x 1).val, h⟩ (x 2)) rfl ?_
    intro a
    match a with
    | ⟨0, _⟩ => exact (Nat.zero_add _).symm
    | ⟨1, _⟩ => exact (Nat.zero_add _).symm
    | ⟨2, _⟩ => exact (Nat.zero_add _).symm
  · have hlt : (x 1).val - 128 < 128 := by omega
    rw [dif_neg h]
    refine View.read_writes_cons_unit_of_mem (off' := ![0, 128, 0]) v f _ _ _ x (ix3 (x 0) ⟨(x 1).val - 128, hlt⟩ (x 2)) rfl ?_
    intro a
    match a with
    | ⟨0, _⟩ => exact (Nat.zero_add _).symm
    | ⟨1, _⟩ => show (x 1).val = 128 + ((x 1).val - 128); omega
    | ⟨2, _⟩ => exact (Nat.zero_add _).symm

/-- The first point of a head pair: the keys and values are the ones it stores in the scratch. -/
theorem run_A (hc0 : cond0_0 i)
    (x0 : Vec F S128x128 .f32) (x1 : Vec F S4096x128 .f32) (x2 : Vec F S4096x128 .f32) (x3 : Vec F S1x128 .f32) (x4 : Vec F S1x128 .f32) (x5 : Vec F S1x128 .f32) (x6 : Vec F S128x256 .bf16) :
    out0_A_7 (F := F) c i arg3 harg3 arg4 harg4 arg5 harg5 arg6 harg6 arg7 harg7 arg8 harg8 arg9 harg9 arg10 harg10 arg11 harg11 arg12 harg12 arg13 harg13 arg14 harg14 hc0 x0 x1 x2 x3 x4 x5 x6 = outBlock (qblk i) x0 x3 x5 x6 (keysOf x1 x4) (valsOf x2) := by
  have e0 : arg3.view.readAt (Elt F) (Rect.unit (s := S128x128) ![0, 0] S128x128.size inb_S128x128_S128x128_0_0).toLoadRect (harg3.unread x0) = x0 := by
    rw [View.readAt_full, harg3.read_unread]
  have e3 : arg6.view.readAt (Elt F) (Rect.unit (s := S1x128) ![0, 0] S1x128.size inb_S1x128_S1x128_0_0).toLoadRect (harg6.unread x3) = x3 := by
    rw [View.readAt_full, harg6.read_unread]
  have e5 : arg8.view.readAt (Elt F) (Rect.unit (s := S1x128) ![0, 0] S1x128.size inb_S1x128_S1x128_0_0).toLoadRect (harg8.unread x5) = x5 := by
    rw [View.readAt_full, harg8.read_unread]
  have e6 : arg9.view.readAt (Elt F) (Rect.unit (s := S128x256) ![0, 0] S128x256.size inb_S128x256_S128x256_0_0).toLoadRect (harg9.unread x6) = x6 := by
    rw [View.readAt_full, harg9.read_unread]
  have e1 : arg4.view.readAt (Elt F) (Rect.unit (s := S4096x128) ![0, 0] S4096x128.size inb_S4096x128_S4096x128_0_0).toLoadRect (harg4.unread x1) = x1 := by
    rw [View.readAt_full, harg4.read_unread]
  have e2 : arg5.view.readAt (Elt F) (Rect.unit (s := S4096x128) ![0, 0] S4096x128.size inb_S4096x128_S4096x128_0_0).toLoadRect (harg5.unread x2) = x2 := by
    rw [View.readAt_full, harg5.read_unread]
  have e4 : arg7.view.readAt (Elt F) (Rect.unit (s := S1x128) ![0, 0] S1x128.size inb_S1x128_S1x128_0_0).toLoadRect (harg7.unread x4) = x4 := by
    rw [View.readAt_full, harg7.read_unread]
  have hk := (keys_read (F := F) arg11.view arg11.view.junk (arg4.view.readAt (Elt F) (Rect.unit (s := S4096x128) ![0, 0] S4096x128.size inb_S4096x128_S4096x128_0_0).toLoadRect (harg4.unread x1)) (arg7.view.readAt (Elt F) (Rect.unit (s := S1x128) ![0, 0] S1x128.size inb_S1x128_S1x128_0_0).toLoadRect (harg7.unread x4))).trans (congrArg₂ keysOf e1 e4)
  have hv := (vals_read (F := F) arg12.view arg12.view.junk (arg5.view.readAt (Elt F) (Rect.unit (s := S4096x128) ![0, 0] S4096x128.size inb_S4096x128_S4096x128_0_0).toLoadRect (harg5.unread x2))).trans (congrArg valsOf e2)
  have ek := (readAt_key (F := F) arg11 (arg11.view.writes (Elt F) arg11.view.junk [⟨Rect.unit ![0, 0] S4096x128.size inb_S4096x128_S4096x128_0_0, k0_pay2 k0_pay15 (arg4.view.readAt (Elt F) (Rect.unit (s := S4096x128) ![0, 0] S4096x128.size inb_S4096x128_S4096x128_0_0).toLoadRect (harg4.unread x1)) (arg7.view.readAt (Elt F) (Rect.unit (s := S1x128) ![0, 0] S1x128.size inb_S1x128_S1x128_0_0).toLoadRect (harg7.unread x4))⟩]) (qblk i) _ (off1_eq i) (k0_off1_inb i)).trans (congrArg (keyBlock · _) hk)
  have ev := (readAt_val (F := F) arg12 (arg12.view.writes (Elt F) arg12.view.junk [⟨Rect.unit ![0, 128, 0] S32x128x128.size inb_S32x256x128_S32x128x128_0_128_0, k0_pay17 (k0_pay3 (arg5.view.readAt (Elt F) (Rect.unit (s := S4096x128) ![0, 0] S4096x128.size inb_S4096x128_S4096x128_0_0).toLoadRect (harg5.unread x2)))⟩,
          ⟨Rect.unit ![0, 0, 0] S32x128x128.size inb_S32x256x128_S32x128x128_0_0_0, k0_pay16 (k0_pay4 k0_pay15 (arg5.view.readAt (Elt F) (Rect.unit (s := S4096x128) ![0, 0] S4096x128.size inb_S4096x128_S4096x128_0_0).toLoadRect (harg5.unread x2)))⟩]) (qblk i) _ (off2_eq i) (k0_off2_inb i)).trans (congrArg (valBlock · _) hv)
  have eC : arg13.view.readCov [(⟨Rect.unit (s := S256x128) ![0, 0] S256x128.size inb_S256x128_S256x128_0_0, k0_pay21 (F := F)⟩ : View.Piece (Elt F) S256x128 .f32)] (Rect.unit (s := S256x128) ![0, 0] S256x128.size inb_S256x128_S256x128_0_0).toLoadRect = k0_pay21 :=
    View.readCov_full _ _ _ _ _
  have eA : arg14.view.readCov [(⟨Rect.unit (s := S128x128) ![0, 0] S128x128.size inb_S128x128_S128x128_0_0, k0_pay22 (F := F)⟩ : View.Piece (Elt F) S128x128 .f32)] (Rect.unit (s := S128x128) ![0, 0] S128x128.size inb_S128x128_S128x128_0_0).toLoadRect = k0_pay22 :=
    View.readCov_full _ _ _ _ _
  unfold out0_A_7 kernelRun0_A
  dsimp only
  rw [View.read_writes_full]
  unfold outBlock
  refine congrArg₂ (k0_pay1 k0_pay15) ?_ e5
  refine load_eq arg3 harg3 arg4 harg4 arg5 harg5 arg6 harg6 arg7 harg7 arg8 harg8 arg9 harg9 arg10 harg10 arg11 harg11 arg12 harg12 arg13 harg13 arg14 harg14 _ c _ i _ _ _ _ _ _ _ _ _ _ _ _ _ _ _ _ _ _ ?_ ?_ hk hv ?_ ?_
  · exact congrArg₂ queries e0 e3
  · exact e6
  · refine (View.read_writes_full _ _ _ _ _).trans ?_
    exact diagSum_congr e0 e3 e6 ek eC
  · refine (View.read_writes_full _ _ _ _ _).trans ?_
    exact diagAcc_congr e0 e3 e6 ek ev eC eA

theorem scratch_keys (hc0 : cond0_0 i)
    (x0 : Vec F S128x128 .f32) (x1 : Vec F S4096x128 .f32) (x2 : Vec F S4096x128 .f32) (x3 : Vec F S1x128 .f32) (x4 : Vec F S1x128 .f32) (x5 : Vec F S1x128 .f32) (x6 : Vec F S128x256 .bf16) :
    sout0_A_0 (F := F) c i arg3 harg3 arg4 harg4 arg5 harg5 arg6 harg6 arg7 harg7 arg8 harg8 arg9 harg9 arg10 harg10 arg11 harg11 arg12 harg12 arg13 harg13 arg14 harg14 hc0 x0 x1 x2 x3 x4 x5 x6 = keysOf x1 x4 := by
  have e1 : arg4.view.readAt (Elt F) (Rect.unit (s := S4096x128) ![0, 0] S4096x128.size inb_S4096x128_S4096x128_0_0).toLoadRect (harg4.unread x1) = x1 := by
    rw [View.readAt_full, harg4.read_unread]
  have e4 : arg7.view.readAt (Elt F) (Rect.unit (s := S1x128) ![0, 0] S1x128.size inb_S1x128_S1x128_0_0).toLoadRect (harg7.unread x4) = x4 := by
    rw [View.readAt_full, harg7.read_unread]
  unfold sout0_A_0 kernelRun0_A
  exact (keys_read (F := F) _ _ _ _).trans (congrArg₂ keysOf e1 e4)

theorem scratch_vals (hc0 : cond0_0 i)
    (x0 : Vec F S128x128 .f32) (x1 : Vec F S4096x128 .f32) (x2 : Vec F S4096x128 .f32) (x3 : Vec F S1x128 .f32) (x4 : Vec F S1x128 .f32) (x5 : Vec F S1x128 .f32) (x6 : Vec F S128x256 .bf16) :
    sout0_A_1 (F := F) c i arg3 harg3 arg4 harg4 arg5 harg5 arg6 harg6 arg7 harg7 arg8 harg8 arg9 harg9 arg10 harg10 arg11 harg11 arg12 harg12 arg13 harg13 arg14 harg14 hc0 x0 x1 x2 x3 x4 x5 x6 = valsOf x2 := by
  have e2 : arg5.view.readAt (Elt F) (Rect.unit (s := S4096x128) ![0, 0] S4096x128.size inb_S4096x128_S4096x128_0_0).toLoadRect (harg5.unread x2) = x2 := by
    rw [View.readAt_full, harg5.read_unread]
  unfold sout0_A_1 kernelRun0_A
  exact (vals_read (F := F) _ _ _).trans (congrArg valsOf e2)

end Loops

end Cert.KernelIdeal.Body

end
-- ==== Proof.Stick.lean ====
/-
  The arithmetic of stick-breaking attention, free of any program: the softplus, the softplus sums to the right of a
  key, the weight of a key, and the head-wise normalisation, which is real whatever the row it normalises.
-/
module

public import Idealize.ShloMosaic.Lib.Pointwise
public import Idealize.ShloMosaic.PureOps.Ideal.Laws

@[expose] public section

noncomputable section

namespace Cert.Stick

open Idealize.ShloMosaic

/-! ## Sums -/

theorem coe_sum {ι : Type*} (s : Finset ι) (f : ι → ℝ) : ∑ i ∈ s, (f i : EReal) = ((∑ i ∈ s, f i : ℝ) : EReal) := by
  classical
  refine Finset.induction_on s (by simp) fun a s ha ih => ?_
  rw [Finset.sum_insert ha, Finset.sum_insert ha, ih, EReal.coe_add]

/-- A sum over the 128 positions of a block, as one over the keys it holds. -/
theorem sum_block {M : Type*} [AddCommMonoid M] (f : ℕ → M) (o : ℕ) :
    ∑ x : Fin 128, f (o + x.val) = ∑ s ∈ Finset.Ico o (o + 128), f s := by
  rw [Finset.sum_Ico_eq_sum_range, Nat.add_sub_cancel_left, ← Fin.sum_univ_eq_sum_range (fun x => f (o + x))]

/-- The same, over the positions after `l` only. -/
theorem sum_block_after (f : ℕ → ℝ) (o : ℕ) (l : ℕ) (hl : l < 128) :
    ∑ x : Fin 128, (if l < x.val then f (o + x.val) else 0) = ∑ s ∈ Finset.Ico (o + l + 1) (o + 128), f s := by
  have h1 := sum_block (fun s => if o + l < s then f s else 0) o
  have h2 : ∑ x : Fin 128, (if l < x.val then f (o + x.val) else 0) = ∑ x : Fin 128, (fun s => if o + l < s then f s else 0) (o + x.val) := by
    refine Finset.sum_congr rfl fun x _ => ?_
    dsimp only
    by_cases h : l < x.val
    · rw [if_pos h, if_pos (by omega)]
    · rw [if_neg h, if_neg (by omega)]
  rw [h2, h1, ← Finset.sum_filter]
  refine Finset.sum_congr ?_ fun _ _ => rfl
  ext s
  simp only [Finset.mem_filter, Finset.mem_Ico]
  omega

/-! ## The softplus -/

def softplus (x : ℝ) : ℝ := Real.log (1 + Real.exp x)

theorem softplus_eq (x : ℝ) : max x 0 + Real.log (1 + Real.exp (-|x|)) = softplus x := by
  unfold softplus
  rcases le_total 0 x with h | h
  · rw [max_eq_left h, abs_of_nonneg h]
    have h1 : (1 : ℝ) + Real.exp x = Real.exp x * (1 + Real.exp (-x)) := by
      rw [mul_add, mul_one, ← Real.exp_add, add_neg_cancel, Real.exp_zero, add_comm]
    rw [h1, Real.log_mul (Real.exp_pos x).ne' (by positivity), Real.log_exp]
  · rw [max_eq_right h, abs_of_nonpos h, neg_neg, zero_add]

theorem softplus_neg (x : ℝ) : softplus (-x) = softplus x - x := by
  unfold softplus
  have h1 : (1 : ℝ) + Real.exp x = Real.exp x * (1 + Real.exp (-x)) := by
    rw [mul_add, mul_one, ← Real.exp_add, add_neg_cancel, Real.exp_zero, add_comm]
  rw [h1, Real.log_mul (Real.exp_pos x).ne' (by positivity), Real.log_exp]
  ring

theorem coe_max (x y : ℝ) : max (x : EReal) (y : EReal) = ((max x y : ℝ) : EReal) := (EReal.coe_strictMono.monotone.map_max).symm

theorem log_one_add_exp (y : ℝ) : Ideal.log (1 + Ideal.exp (y : EReal)) = ((Real.log (1 + Real.exp y) : ℝ) : EReal) := by
  have h : (1 : EReal) + Ideal.exp (y : EReal) = ((1 + Real.exp y : ℝ) : EReal) := by
    rw [Ideal.exp_coe, EReal.coe_add, EReal.coe_one]
  rw [h, Ideal.log_coe, if_neg (not_le.mpr (by positivity))]

/-- The softplus as the kernel computes it. -/
theorem softplus_kernel (x : ℝ) :
    max (x : EReal) 0 + Ideal.log (1 + Ideal.exp (0 - max (x : EReal) (-(x : EReal)))) = (softplus x : EReal) := by
  have h0 : (0 : EReal) - max (x : EReal) (-(x : EReal)) = ((-|x| : ℝ) : EReal) := by
    rw [← EReal.coe_neg, coe_max, ← EReal.coe_zero, ← EReal.coe_sub, zero_sub]
    rfl
  rw [h0, log_one_add_exp, ← EReal.coe_zero, coe_max, ← EReal.coe_add, softplus_eq]

/-- The softplus as the reference computes it: a value is never unequal to itself, so the first branch is not taken. -/
theorem softplus_reference (y o a d : EReal) (x : ℝ) (hy : y = (x : EReal)) (ho : o = 0) (hd : d = (x : EReal)) :
    Scalar.select (Ideal.cmp .une d d) a (max y o + Ideal.log1p (Ideal.exp (-(max d (-d))))) = (softplus x : EReal) := by
  subst hy ho hd
  have h0 : Ideal.cmp .une (x : EReal) (x : EReal) = 0#1 := by simp [Ideal.cmp]
  rw [h0, ← softplus_kernel, zero_sub]
  rfl

/-! ## The weights -/

/-- The softplus of a key the query sees, zero of one it does not. -/
def seen (t : ℕ) (z : ℕ → ℝ) (s : ℕ) : ℝ := if s < t then softplus (z s) else 0

/-- The sum of the softplus values from key `s` on. -/
def tail (t : ℕ) (z : ℕ → ℝ) (s : ℕ) : ℝ := ∑ j ∈ Finset.Ico s 4096, seen t z j

/-- What query `t` gives key `s`: the part of the stick broken off there. -/
def weight (t : ℕ) (z : ℕ → ℝ) (s : ℕ) : ℝ := if s < t then Real.exp (z s - seen t z s - tail t z (s + 1)) else 0

theorem seen_of_le {t : ℕ} {z : ℕ → ℝ} {s : ℕ} (h : t ≤ s) : seen t z s = 0 := if_neg (by omega)

theorem weight_of_le {t : ℕ} {z : ℕ → ℝ} {s : ℕ} (h : t ≤ s) : weight t z s = 0 := if_neg (by omega)

theorem tail_of_le {t : ℕ} {z : ℕ → ℝ} {s : ℕ} (h : t ≤ s) : tail t z s = 0 :=
  Finset.sum_eq_zero fun j hj => seen_of_le (h.trans (Finset.mem_Ico.mp hj).1)

theorem tail_split (t : ℕ) (z : ℕ → ℝ) {a b : ℕ} (hab : a ≤ b) (hb : b ≤ 4096) :
    tail t z a = (∑ j ∈ Finset.Ico a b, seen t z j) + tail t z b := (Finset.sum_Ico_consecutive _ hab hb).symm

/-- The weighted values from key `s` on, for two weights and two value columns. -/
def gather (w0 w1 : ℕ → ℝ) (V0 V1 : ℕ → EReal) (s : ℕ) : EReal :=
  ∑ j ∈ Finset.Ico s 4096, ((w0 j : EReal) * V0 j + (w1 j : EReal) * V1 j)

theorem gather_split (w0 w1 : ℕ → ℝ) (V0 V1 : ℕ → EReal) {o : ℕ} (ho : o + 128 ≤ 4096) :
    gather w0 w1 V0 V1 o = gather w0 w1 V0 V1 (o + 128)
      + ((∑ x : Fin 128, (w0 (o + x.val) : EReal) * V0 (o + x.val)) + ∑ x : Fin 128, (w1 (o + x.val) : EReal) * V1 (o + x.val)) := by
  unfold gather
  rw [← Finset.sum_add_distrib, ← Finset.sum_Ico_consecutive _ (Nat.le_add_right o 128) ho, add_comm,
    sum_block (fun s => (w0 s : EReal) * V0 s + (w1 s : EReal) * V1 s) o]

theorem gather_of_zero (w0 w1 : ℕ → ℝ) (V0 V1 : ℕ → EReal) {s : ℕ} (h0 : ∀ j, s ≤ j → w0 j = 0) (h1 : ∀ j, s ≤ j → w1 j = 0) :
    gather w0 w1 V0 V1 s = 0 :=
  Finset.sum_eq_zero fun j hj => by
    rw [h0 j (Finset.mem_Ico.mp hj).1, h1 j (Finset.mem_Ico.mp hj).1, EReal.coe_zero, zero_mul, zero_mul, add_zero]

/-- What query `t` takes from a column of values. -/
def attend (t : ℕ) (z : ℕ → ℝ) (v : ℕ → EReal) : EReal := ∑ s ∈ Finset.Ico 0 4096, (weight t z s : EReal) * v s

theorem gather_left (w0 w1 : ℕ → ℝ) (V : ℕ → EReal) (s : ℕ) :
    gather w0 w1 V (fun _ => 0) s = ∑ j ∈ Finset.Ico s 4096, (w0 j : EReal) * V j :=
  Finset.sum_congr rfl fun j _ => by rw [mul_zero, add_zero]

theorem gather_right (w0 w1 : ℕ → ℝ) (V : ℕ → EReal) (s : ℕ) :
    gather w0 w1 (fun _ => 0) V s = ∑ j ∈ Finset.Ico s 4096, (w1 j : EReal) * V j :=
  Finset.sum_congr rfl fun j _ => by rw [mul_zero, zero_add]

theorem attend_eq (t : ℕ) (z : ℕ → ℝ) (v : ℕ → EReal) : attend t z v = ∑ s : Fin 4096, (weight t z s.val : EReal) * v s.val := by
  rw [attend, ← Finset.range_eq_Ico, ← Fin.sum_univ_eq_sum_range (fun s => (weight t z s : EReal) * v s)]

/-! ## The normalisation -/

/-- The number the mean square is guarded by: the rational of its float word. -/
def eps : EReal := Ideal.ofBits .f32 0x358637BD#32

theorem eps_pos : ∃ e : ℝ, eps = (e : EReal) ∧ 0 < e := by
  refine ⟨8796093 * 2 ^ (-43 : ℤ), ?_, by positivity⟩
  simp [eps, Ideal.ofBits, Ideal.ieee, -EReal.coe_mul]

theorem word_sixtyfourth : Ideal.ofBits .f32 0x3C800000#32 = ((1 / 64 : ℝ) : EReal) := by
  simp [Ideal.ofBits, Ideal.ieee, -EReal.coe_mul]
  norm_num

theorem word_sixtyfour : Ideal.ofBits .f32 0x42800000#32 = ((64 : ℝ) : EReal) := by
  simp [Ideal.ofBits, Ideal.ieee, -EReal.coe_mul]
  norm_num

theorem word_eighth : Ideal.ofBits .f32 0x3E000000#32 = ((1 / 8 : ℝ) : EReal) := by
  simp [Ideal.ofBits, Ideal.ieee, -EReal.coe_mul]
  norm_num

theorem word_bot : Ideal.ofBits .f32 0xFF800000#32 = ⊥ := by
  simp [Ideal.ofBits, Ideal.ieee]

/-- Coordinate `i` of a head's row over its root mean square. -/
def rms (x : Fin 64 → EReal) (i : Fin 64) : EReal :=
  x i * Ideal.rsqrt ((∑ k, x k * x k) * ((1 / 64 : ℝ) : EReal) + eps)

/-- The normalised row is real whatever the row: an infinite coordinate makes the mean square infinite and the row zero. -/
theorem rms_real (x : Fin 64 → EReal) (i : Fin 64) : ∃ r : ℝ, rms x i = (r : EReal) := by
  obtain ⟨e, he, hepos⟩ := eps_pos
  unfold rms
  by_cases hx : ∀ k, ∃ r : ℝ, x k = (r : EReal)
  · choose f hf using hx
    have hS : (∑ k, x k * x k) * ((1 / 64 : ℝ) : EReal) + eps = (((∑ k, f k * f k) * (1 / 64) + e : ℝ) : EReal) := by
      rw [he, EReal.coe_add, EReal.coe_mul, ← coe_sum]
      simp only [hf, EReal.coe_mul]
    have hpos : 0 < (∑ k, f k * f k) * (1 / 64) + e := by
      have := Finset.sum_nonneg fun k (_ : k ∈ Finset.univ) => mul_self_nonneg (f k)
      positivity
    rw [hS, Ideal.rsqrt_coe, if_neg (not_lt.mpr hpos.le), if_neg hpos.ne', hf i, ← EReal.coe_mul]
    exact ⟨_, rfl⟩
  · rw [not_forall] at hx
    obtain ⟨k, hk⟩ := hx
    have hnn : ∀ y : EReal, 0 ≤ y * y := fun y => by
      induction y with
      | bot => simp
      | top => simp
      | coe r => rw [← EReal.coe_mul]; exact EReal.coe_nonneg.mpr (mul_self_nonneg r)
    have htop : x k * x k = ⊤ := by
      generalize x k = y at hk
      induction y with
      | bot => simp
      | top => simp
      | coe r => exact absurd ⟨r, rfl⟩ hk
    have hsum : ∑ k, x k * x k = ⊤ := top_le_iff.mp (htop ▸ Finset.single_le_sum (fun j _ => hnn (x j)) (Finset.mem_univ k))
    rw [hsum, EReal.top_mul_coe_of_pos (by norm_num), he, EReal.top_add_coe, Ideal.rsqrt_top, mul_zero]
    exact ⟨0, EReal.coe_zero.symm⟩

/-- The mean as the reference computes it, a sum from zero divided by 64. -/
theorem mean_eq (S : EReal) : Ideal.div (Ideal.ofBits .f32 0x00000000#32 + S) (Ideal.ofBits .f32 0x42800000#32) = S * ((1 / 64 : ℝ) : EReal) := by
  rw [Ideal.ofBits_zero_f32, zero_add, word_sixtyfour, Ideal.div, if_neg (by norm_num), ← EReal.coe_inv]
  norm_num

/-! ## The operands and the result -/

/-- The projected rows. -/
abbrev Proj := (⟨2, ![16384, 4864]⟩ : Shape).Idx → EReal

/-- Head `hd` of token `s` of batch `b`: its query (`part` 0), its key (1) or its value (2). -/
def headRow (x : Proj) (part : Fin 3) (b : Fin 4) (hd : Fin 6) (s : Fin 4096) : Fin 64 → EReal := fun k =>
  x (ix2 ⟨4096 * b.val + s.val, by have := b.isLt; have := s.isLt; omega⟩
    ⟨3584 + 384 * part.val + 64 * hd.val + k.val, by have := part.isLt; have := hd.isLt; have := k.isLt; omega⟩)

/-- Coordinate `k` of the values, by key. -/
def valueColumn (x : Proj) (b : Fin 4) (hd : Fin 6) (k : Fin 64) (s : ℕ) : EReal :=
  if hs : s < 4096 then headRow x 2 b hd ⟨s, hs⟩ k else 0

/-- The attention's output for a token and head, from its logits. -/
def result (x : Proj) (og : Fin 64 → EReal) (z : ℕ → ℝ) (b : Fin 4) (hd : Fin 6) (t : Fin 4096) (i : Fin 64) : EReal :=
  rms (fun k => attend t.val z (valueColumn x b hd k)) i * og i

/-- The logit of a key, the query scaled first. -/
def logit (q k gq gk : Fin 64 → EReal) : EReal := ∑ i, rms q i * gq i * ((1 / 8 : ℝ) : EReal) * (rms k i * gk i)

/-- With real gains a logit is real, and the scale may be applied after the product instead. -/
theorem logit_real (gq gk : Fin 64 → EReal) (hq : ∀ i, ∃ r : ℝ, gq i = (r : EReal)) (hk : ∀ i, ∃ r : ℝ, gk i = (r : EReal))
    (q k : Fin 64 → EReal) :
    ∃ z : ℝ, logit q k gq gk = (z : EReal)
      ∧ (∑ i, rms q i * gq i * (rms k i * gk i)) * ((1 / 8 : ℝ) : EReal) = (z : EReal) := by
  choose a ha using rms_real q
  choose b hb using rms_real k
  choose c hc using hq
  choose d hd using hk
  refine ⟨∑ i, a i * c i * (1 / 8) * (b i * d i), ?_, ?_⟩
  · rw [logit, ← coe_sum]
    exact Finset.sum_congr rfl fun i _ => by rw [ha, hb, hc, hd]; simp only [EReal.coe_mul]
  · have h : ∑ i, rms q i * gq i * (rms k i * gk i) = ((∑ i, a i * c i * (b i * d i) : ℝ) : EReal) := by
      rw [← coe_sum]
      exact Finset.sum_congr rfl fun i _ => by rw [ha, hb, hc, hd]; simp only [EReal.coe_mul]
    rw [h, ← EReal.coe_mul, Finset.sum_mul]
    exact congrArg _ (Finset.sum_congr rfl fun i _ => by ring)

/-- The real logits of a query, by key. -/
def logits (x : Proj) (gq gk : Fin 64 → EReal) (b : Fin 4) (hd : Fin 6) (t : Fin 4096) (s : ℕ) : ℝ :=
  if hs : s < 4096 then (logit (headRow x 0 b hd t) (headRow x 1 b hd ⟨s, hs⟩) gq gk).toReal else 0

theorem logits_real (x : Proj) (gq gk : Fin 64 → EReal) (hq : ∀ i, ∃ r : ℝ, gq i = (r : EReal)) (hk : ∀ i, ∃ r : ℝ, gk i = (r : EReal))
    (b : Fin 4) (hd : Fin 6) (t s : Fin 4096) :
    logit (headRow x 0 b hd t) (headRow x 1 b hd s) gq gk = (logits x gq gk b hd t s.val : EReal)
      ∧ (∑ i, rms (headRow x 0 b hd t) i * gq i * (rms (headRow x 1 b hd s) i * gk i)) * ((1 / 8 : ℝ) : EReal) = (logits x gq gk b hd t s.val : EReal) := by
  obtain ⟨z, h1, h2⟩ := logit_real gq gk hq hk (headRow x 0 b hd t) (headRow x 1 b hd s)
  have h : logits x gq gk b hd t s.val = z := by rw [logits, dif_pos s.isLt, h1, EReal.toReal_coe]
  rw [h]
  exact ⟨h1, h2⟩

/-- Stick-breaking attention, as a function of the projected rows and the three gains. -/
def attention (x : Proj) (gq gk g : Fin 64 → EReal) : (⟨2, ![16384, 384]⟩ : Shape).Idx → EReal := fun i =>
  have h0 : (i 0).val < 16384 := (i 0).isLt
  have h1 : (i 1).val < 384 := (i 1).isLt
  let b : Fin 4 := ⟨(i 0).val / 4096, by omega⟩
  let t : Fin 4096 := ⟨(i 0).val % 4096, by omega⟩
  let hd : Fin 6 := ⟨(i 1).val / 64, by omega⟩
  result x g (logits x gq gk b hd t) b hd t ⟨(i 1).val % 64, by omega⟩

theorem attention_apply (x : Proj) (gq gk g : Fin 64 → EReal) (i : (⟨2, ![16384, 384]⟩ : Shape).Idx) (b : Fin 4) (hd : Fin 6) (t : Fin 4096) (k : Fin 64)
    (h0 : (i 0).val = 4096 * b.val + t.val) (h1 : (i 1).val = 64 * hd.val + k.val) :
    attention x gq gk g i = result x g (logits x gq gk b hd t) b hd t k := by
  have := b.isLt; have := t.isLt; have := hd.isLt; have := k.isLt
  have e0 : (⟨(i 0).val / 4096, by omega⟩ : Fin 4) = b := Fin.ext (by show (i 0).val / 4096 = b.val; omega)
  have e1 : (⟨(i 0).val % 4096, by omega⟩ : Fin 4096) = t := Fin.ext (by show (i 0).val % 4096 = t.val; omega)
  have e2 : (⟨(i 1).val / 64, by omega⟩ : Fin 6) = hd := Fin.ext (by show (i 1).val / 64 = hd.val; omega)
  have e3 : (⟨(i 1).val % 64, by omega⟩ : Fin 64) = k := Fin.ext (by show (i 1).val % 64 = k.val; omega)
  show result x g (logits x gq gk _ _ _) _ _ _ _ = _
  rw [e0, e1, e2, e3]

end Cert.Stick
-- ==== Proof.Rows.lean ====
/-
  The sweep at the ideal instance, one query row and one value column at a time: with the logits of the row real, the
  carried sum is the softplus sum to the right of the block reached, and the carried row the weighted values from there on.
-/
module

public import proofs.«01_k».proof.Proof.Body
public import proofs.«01_k».proof.Proof.Stick

@[expose] public section

set_option maxRecDepth 16384

noncomputable section

namespace Cert.KernelIdeal.Rows

open Idealize.ShloMosaic Idealize.ShloMosaic.TcCoe Idealize.ShloMosaic.Tactic
open Cert.KernelIdeal Cert.KernelIdeal.Gen Cert.KernelIdeal.Body Cert.Stick

/-- The table the softplus row is multiplied by: ones below the diagonal, then a square of ones. -/
def IsTable (u : Vec Ideal S128x256 .bf16) : Prop :=
  ∀ (j : Fin 128) (l : Fin 256), u (ix2 j l) = if l.val < 128 then (if l.val < j.val then 1 else 0) else 1

/-- A real row through the table, at a left column: the sum of the entries after it. -/
theorem table_left {u : Vec Ideal S128x256 .bf16} (hu : IsTable u) (m : ℕ → ℝ) (o : ℕ) (p : Fin 128 → EReal)
    (hp : ∀ x : Fin 128, p x = (m (o + x.val) : EReal)) (l : Fin 256) (hl : l.val < 128) :
    ∑ x, p x * u (ix2 x l) + ∑ x, (p x - p x) * u (ix2 x l) = ((∑ s ∈ Finset.Ico (o + l.val + 1) (o + 128), m s : ℝ) : EReal) := by
  have h2 : ∑ x, (p x - p x) * u (ix2 x l) = 0 := Finset.sum_eq_zero fun x _ => by
    rw [hp x, ← EReal.coe_sub, sub_self, EReal.coe_zero, zero_mul]
  rw [h2, add_zero, ← sum_block_after m o l.val hl, ← coe_sum]
  refine Finset.sum_congr rfl fun x _ => ?_
  rw [hp x, hu x l, if_pos hl]
  split
  · rw [mul_one]
  · rw [mul_zero, EReal.coe_zero]

/-- … and at a right column: the sum of them all. -/
theorem table_right {u : Vec Ideal S128x256 .bf16} (hu : IsTable u) (m : ℕ → ℝ) (o : ℕ) (p : Fin 128 → EReal)
    (hp : ∀ x : Fin 128, p x = (m (o + x.val) : EReal)) (l : Fin 256) (hl : ¬ l.val < 128) :
    ∑ x, p x * u (ix2 x l) + ∑ x, (p x - p x) * u (ix2 x l) = ((∑ s ∈ Finset.Ico o (o + 128), m s : ℝ) : EReal) := by
  have h2 : ∑ x, (p x - p x) * u (ix2 x l) = 0 := Finset.sum_eq_zero fun x _ => by
    rw [hp x, ← EReal.coe_sub, sub_self, EReal.coe_zero, zero_mul]
  rw [h2, add_zero, ← sum_block m o, ← coe_sum]
  refine Finset.sum_congr rfl fun x _ => ?_
  rw [hp x, hu x l, if_neg hl, mul_one]

/-! ## The words at an index -/

theorem logit_apply (Q : FVec Ideal S256x128 .bf16) (kb : Vec Ideal S128x128 .bf16) (R : Fin 256) (x : Fin 128) :
    k0_pay5 Q kb (ix2 R x) = ∑ k, Q (ix2 R k) * kb (ix2 x k) := by
  pointwise [k0_pay5]

theorem plus_apply (Q : FVec Ideal S256x128 .bf16) (kb : Vec Ideal S128x128 .bf16) (R : Fin 256) (x : Fin 128) :
    k0_pay6 Q kb (ix2 R x) = max (k0_pay5 Q kb (ix2 R x)) 0
      + Ideal.log (1 + Ideal.exp (0 - FloatOps.absf (k0_pay5 Q kb (ix2 R x)))) := by
  pointwise [k0_pay6]

theorem sums_apply (Q : FVec Ideal S256x128 .bf16) (u : Vec Ideal S128x256 .bf16) (kb : Vec Ideal S128x128 .bf16) (R l : Fin 256) :
    k0_pay7 Q u kb (ix2 R l) = ∑ x, k0_pay6 Q kb (ix2 R x) * u (ix2 x l)
      + ∑ x, (k0_pay6 Q kb (ix2 R x) - k0_pay6 Q kb (ix2 R x)) * u (ix2 x l) := by
  pointwise [k0_pay7]

theorem carry_apply (Q : FVec Ideal S256x128 .bf16) (u : Vec Ideal S128x256 .bf16) (kb : Vec Ideal S128x128 .bf16)
    (C : Vec Ideal S256x128 .f32) (R : Fin 256) (l : Fin 128) :
    k0_pay8 Q u kb C (ix2 R l) = C (ix2 R l) + k0_pay7 Q u kb (ix2 R ⟨128 + l.val, by have := l.isLt; omega⟩) := by
  pointwise [k0_pay8]

/-- The stacked row of query `r`, for the low and the high head. -/
abbrev low (r : Fin 128) : Fin 256 := ⟨r.val, by have := r.isLt; omega⟩
abbrev high (r : Fin 128) : Fin 256 := ⟨128 + r.val, by have := r.isLt; omega⟩

theorem weights_apply_low (Q : FVec Ideal S256x128 .bf16) (u : Vec Ideal S128x256 .bf16) (kb : Vec Ideal S128x128 .bf16)
    (C : Vec Ideal S256x128 .f32) (r x : Fin 128) :
    k0_pay9 Q u kb C (ix2 r (low x)) = Ideal.exp (k0_pay5 Q kb (ix2 (low r) x) - k0_pay6 Q kb (ix2 (low r) x)
      - k0_pay7 Q u kb (ix2 (low r) (low x)) - C (ix2 (low r) x)) := by
  pointwise [k0_pay9]

theorem weights_apply_high (Q : FVec Ideal S256x128 .bf16) (u : Vec Ideal S128x256 .bf16) (kb : Vec Ideal S128x128 .bf16)
    (C : Vec Ideal S256x128 .f32) (r x : Fin 128) :
    k0_pay9 Q u kb C (ix2 r (high x)) = Ideal.exp (k0_pay5 Q kb (ix2 (high r) x) - k0_pay6 Q kb (ix2 (high r) x)
      - k0_pay7 Q u kb (ix2 (high r) (low x)) - C (ix2 (high r) x)) := by
  pointwise [k0_pay9]

theorem acc_apply (w : FVec Ideal S128x256 .bf16) (A : Vec Ideal S128x128 .f32) (vb : Vec Ideal S1x256x128 .bf16) (r l : Fin 128) :
    k0_pay31 w A vb (ix2 r l) = A (ix2 r l) + ((∑ x : Fin 128, w (ix2 r (low x)) * vb (ix3 0 (low x) l))
      + ∑ x : Fin 128, w (ix2 r (high x)) * vb (ix3 0 (high x) l)) := by
  have h : k0_pay31 w A vb (ix2 r l) = A (ix2 r l) + ∑ x : Fin 256, w (ix2 r x) * vb (ix3 0 x l) := by
    pointwise [k0_pay31]
  rw [h, Fin.sum_univ_two_halves 128 128 rfl]

theorem mask_apply (R : Fin 256) (x : Fin 128) : k0_pay24 (ix2 R x) = if x.val < R.val % 128 then 1#1 else 0#1 := by
  have h : ∀ (R : Fin 256) (x : Fin 128), IntOp.cmpi CmpIPredicate.slt (BitVec.ofNat 32 x.val) (IntOp.andi (BitVec.ofNat 32 R.val) 127#32)
      = if x.val < R.val % 128 then 1#1 else 0#1 := by
    intro R x
    have hR := R.isLt
    have hx := x.isLt
    have h1 : IntOp.andi (BitVec.ofNat 32 R.val) 127#32 = BitVec.ofNat 32 (R.val % 128) := by
      apply BitVec.eq_of_toNat_eq
      show ((BitVec.ofNat 32 R.val) &&& 127#32).toNat = _
      rw [BitVec.toNat_and, BitVec.toNat_ofNat, BitVec.toNat_ofNat, BitVec.toNat_ofNat, Nat.mod_eq_of_lt (by omega),
        Nat.mod_eq_of_lt (by omega : R.val % 128 < 2 ^ 32), Nat.mod_eq_of_lt (by omega : 127 < 2 ^ 32)]
      exact Nat.and_two_pow_sub_one_eq_mod R.val 7
    rw [h1, WordCmp.cmpi_slt_ofNat (by omega) (by omega)]
    by_cases h2 : x.val < R.val % 128
    · rw [if_pos h2, decide_eq_true h2]; rfl
    · rw [if_neg h2, decide_eq_false h2]; rfl
  have h0 : k0_pay24 (ix2 R x) = IntOp.cmpi CmpIPredicate.slt (BitVec.ofNat 32 x.val) (IntOp.andi (BitVec.ofNat 32 R.val) 127#32) := by
    pointwise [k0_pay24]
  rw [h0, h]

theorem plus_diag_apply (x0 : Vec Ideal S128x128 .f32) (x3 : Vec Ideal S1x128 .f32) (kb : Vec Ideal S128x128 .bf16) (R : Fin 256) (x : Fin 128) :
    k0_pay25 k0_pay15 (k0_pay18 x0 x3) (Scalar.ofBits .f32 0x00000000#32) k0_pay19 kb (ix2 R x)
      = if x.val < R.val % 128 then k0_pay6 (queries x0 x3) kb (ix2 R x) else 0 := by
  have h : k0_pay25 k0_pay15 (k0_pay18 x0 x3) (Scalar.ofBits .f32 0x00000000#32) k0_pay19 kb (ix2 R x)
      = Scalar.select (k0_pay24 (ix2 R x)) (k0_pay6 (queries x0 x3) kb (ix2 R x)) 0 := by
    pointwise [k0_pay25, k0_pay6, k0_pay23, queries, k0_pay5]
  rw [h, mask_apply]
  split <;> rfl

theorem carry_diag_apply (x0 : Vec Ideal S128x128 .f32) (x3 : Vec Ideal S1x128 .f32) (u : Vec Ideal S128x256 .bf16)
    (kb : Vec Ideal S128x128 .bf16) (R : Fin 256) (l : Fin 128) (p : Fin 128 → EReal)
    (hp : ∀ x, k0_pay25 k0_pay15 (k0_pay18 x0 x3) (Scalar.ofBits .f32 0x00000000#32) k0_pay19 kb (ix2 R x) = p x) :
    diagSum x0 x3 u kb (k0_pay21 (F := Ideal)) (ix2 R l) = ∑ x, p x * u (ix2 x (high l)) + ∑ x, (p x - p x) * u (ix2 x (high l)) := by
  have h : diagSum x0 x3 u kb (k0_pay21 (F := Ideal)) (ix2 R l)
      = ∑ x, k0_pay25 k0_pay15 (k0_pay18 x0 x3) (Scalar.ofBits .f32 0x00000000#32) k0_pay19 kb (ix2 R x) * u (ix2 x (high l))
        + ∑ x, (k0_pay25 k0_pay15 (k0_pay18 x0 x3) (Scalar.ofBits .f32 0x00000000#32) k0_pay19 kb (ix2 R x)
            - k0_pay25 k0_pay15 (k0_pay18 x0 x3) (Scalar.ofBits .f32 0x00000000#32) k0_pay19 kb (ix2 R x)) * u (ix2 x (high l)) := by
    pointwise [diagSum, k0_pay29, k0_pay28, k0_pay26, k0_pay27, k0_pay21]
  rw [h]
  simp only [hp]

/-- The diagonal block's weight of stacked row `R` at key `x`. -/
def diagWeight (x0 : Vec Ideal S128x128 .f32) (x3 : Vec Ideal S1x128 .f32) (u : Vec Ideal S128x256 .bf16)
    (kb : Vec Ideal S128x128 .bf16) (R : Fin 256) (x : Fin 128) (p : Fin 128 → EReal) : EReal :=
  if x.val < R.val % 128 then
    Ideal.exp (k0_pay5 (queries x0 x3) kb (ix2 R x) - p x
      - (∑ y, p y * u (ix2 y (low x)) + ∑ y, (p y - p y) * u (ix2 y (low x))) - 0)
  else 0

theorem acc_diag_apply (x0 : Vec Ideal S128x128 .f32) (x3 : Vec Ideal S1x128 .f32) (u : Vec Ideal S128x256 .bf16)
    (kb : Vec Ideal S128x128 .bf16) (vb : Vec Ideal S1x256x128 .bf16) (r l : Fin 128) (p0 p1 : Fin 128 → EReal)
    (h0 : ∀ x, k0_pay25 k0_pay15 (k0_pay18 x0 x3) (Scalar.ofBits .f32 0x00000000#32) k0_pay19 kb (ix2 (low r) x) = p0 x)
    (h1 : ∀ x, k0_pay25 k0_pay15 (k0_pay18 x0 x3) (Scalar.ofBits .f32 0x00000000#32) k0_pay19 kb (ix2 (high r) x) = p1 x) :
    diagAcc x0 x3 u kb vb (k0_pay21 (F := Ideal)) (k0_pay22 (F := Ideal)) (ix2 r l)
      = (∑ x : Fin 128, diagWeight x0 x3 u kb (low r) x p0 * vb (ix3 0 (low x) l))
        + ∑ x : Fin 128, diagWeight x0 x3 u kb (high r) x p1 * vb (ix3 0 (high x) l) := by
  have hs : ∀ (R : Fin 256) (x : Fin 128), k0_pay28 u (k0_pay25 k0_pay15 (k0_pay18 x0 x3) (Scalar.ofBits .f32 0x00000000#32) k0_pay19 kb)
      (k0_pay26 k0_pay15 (k0_pay18 x0 x3) (Scalar.ofBits .f32 0x00000000#32) k0_pay19 kb)
      (k0_pay27 k0_pay15 (k0_pay18 x0 x3) (Scalar.ofBits .f32 0x00000000#32) k0_pay19 kb) (ix2 R (low x))
      = ∑ y, k0_pay25 k0_pay15 (k0_pay18 x0 x3) (Scalar.ofBits .f32 0x00000000#32) k0_pay19 kb (ix2 R y) * u (ix2 y (low x))
        + ∑ y, (k0_pay25 k0_pay15 (k0_pay18 x0 x3) (Scalar.ofBits .f32 0x00000000#32) k0_pay19 kb (ix2 R y)
            - k0_pay25 k0_pay15 (k0_pay18 x0 x3) (Scalar.ofBits .f32 0x00000000#32) k0_pay19 kb (ix2 R y)) * u (ix2 y (low x)) := by
    intro R x
    pointwise [k0_pay28, k0_pay26, k0_pay27]
  have hz : ∀ (R : Fin 256) (x : Fin 128), k0_pay23 k0_pay15 (k0_pay18 x0 x3) (Scalar.ofBits .f32 0x00000000#32) k0_pay19 kb (ix2 R x)
      = k0_pay5 (queries x0 x3) kb (ix2 R x) := by
    intro R x
    pointwise [k0_pay23, k0_pay5, queries]
  have hm : ∀ (c : Prop) [Decidable c] (a : EReal), Scalar.select (if c then 1#1 else 0#1) a 0 = if c then a else 0 := by
    intro c _ a
    split <;> rfl
  unfold diagAcc
  have h : ∀ (z' m' : FVec Ideal S256x128 .f32) (mk : IVec S256x128 1) (hi : FVec Ideal S256x128 .bf16) (lo : FVec Ideal S256x128 .f32),
      k0_pay30 u z' mk m' hi lo (k0_pay21 (F := Ideal)) (k0_pay22 (F := Ideal)) vb (ix2 r l)
        = ∑ x : Fin 256, (if h : x.val < 128 then
              Scalar.select (mk (ix2 (low r) ⟨x.val, h⟩)) (Ideal.exp (z' (ix2 (low r) ⟨x.val, h⟩) - m' (ix2 (low r) ⟨x.val, h⟩)
                - k0_pay28 u m' hi lo (ix2 (low r) (low ⟨x.val, h⟩)) - 0)) 0
            else Scalar.select (mk (ix2 (high r) ⟨x.val - 128, by have := x.isLt; omega⟩))
              (Ideal.exp (z' (ix2 (high r) ⟨x.val - 128, by have := x.isLt; omega⟩) - m' (ix2 (high r) ⟨x.val - 128, by have := x.isLt; omega⟩)
                - k0_pay28 u m' hi lo (ix2 (high r) (low ⟨x.val - 128, by have := x.isLt; omega⟩)) - 0)) 0) * vb (ix3 0 x l) := by
    intro z' m' mk hi lo
    pointwise [k0_pay30, k0_pay21, k0_pay22]
  rw [h, Fin.sum_univ_two_halves 128 128 rfl]
  refine congrArg₂ (· + ·) (Finset.sum_congr rfl fun x _ => ?_) (Finset.sum_congr rfl fun x _ => ?_)
  · rw [dif_pos x.isLt, mask_apply, hm, hs, hz]
    simp only [h0]
    rfl
  · have e : ∀ h, (⟨128 + x.val - 128, h⟩ : Fin 128) = x := fun h => Fin.ext (Nat.add_sub_cancel_left _ _)
    rw [dif_neg (Nat.not_lt.mpr (Nat.le_add_right 128 x.val)), e, mask_apply, hm, hs, hz]
    simp only [h1]
    rfl

/-! ## One block of keys -/

/-- Row `R` of the logits of the key block that starts at key `o`. -/
def Logits (Q : FVec Ideal S256x128 .bf16) (kb : Vec Ideal S128x128 .bf16) (R : Fin 256) (z : ℕ → ℝ) (o : ℕ) : Prop :=
  ∀ x : Fin 128, ∑ k, Q (ix2 R k) * kb (ix2 x k) = (z (o + x.val) : EReal)

variable {Q : FVec Ideal S256x128 .bf16} {u : Vec Ideal S128x256 .bf16} {kb : Vec Ideal S128x128 .bf16} {R : Fin 256} {z : ℕ → ℝ} {o t : ℕ}

theorem logit_real (hz : Logits Q kb R z o) (x : Fin 128) : k0_pay5 Q kb (ix2 R x) = (z (o + x.val) : EReal) :=
  (logit_apply Q kb R x).trans (hz x)

theorem plus_real (hz : Logits Q kb R z o) (x : Fin 128) : k0_pay6 Q kb (ix2 R x) = (softplus (z (o + x.val)) : EReal) := by
  rw [plus_apply, logit_real hz]
  exact softplus_kernel _

/-- A block all of whose keys the query sees. -/
theorem plus_seen (hz : Logits Q kb R z o) (ht : o + 128 ≤ t) (x : Fin 128) : k0_pay6 Q kb (ix2 R x) = (seen t z (o + x.val) : EReal) := by
  rw [plus_real hz, seen, if_pos (by have := x.isLt; omega)]

theorem carry_real (hu : IsTable u) (hz : Logits Q kb R z o) (ht : o + 128 ≤ t) (ho : o + 128 ≤ 4096)
    (C : Vec Ideal S256x128 .f32) (l : Fin 128) (hC : C (ix2 R l) = (tail t z (o + 128) : EReal)) :
    k0_pay8 Q u kb C (ix2 R l) = (tail t z o : EReal) := by
  rw [carry_apply, sums_apply, table_right hu (seen t z) o _ (plus_seen hz ht) _ (by simp), hC, ← EReal.coe_add,
    tail_split t z (Nat.le_add_right o 128) ho, add_comm]

theorem weight_real (hu : IsTable u) (hz : Logits Q kb R z o) (ht : o + 128 ≤ t) (ho : o + 128 ≤ 4096) (c : EReal) (x : Fin 128)
    (hc : c = (tail t z (o + 128) : EReal)) :
    Ideal.exp (k0_pay5 Q kb (ix2 R x) - k0_pay6 Q kb (ix2 R x) - k0_pay7 Q u kb (ix2 R (low x)) - c) = (weight t z (o + x.val) : EReal) := by
  have hx := x.isLt
  rw [sums_apply, table_left hu (seen t z) o _ (plus_seen hz ht) _ hx, logit_real hz, plus_seen hz ht, hc, ← EReal.coe_sub, ← EReal.coe_sub,
    ← EReal.coe_sub, Ideal.exp_coe, weight, if_pos (by omega), tail_split t z (show o + x.val + 1 ≤ o + 128 by omega) ho, ← sub_sub]

/-! ## The diagonal block -/

variable {x0 : Vec Ideal S128x128 .f32} {x3 : Vec Ideal S1x128 .f32}

theorem plus_diag_seen (hz : Logits (queries x0 x3) kb R z o) (ht : t = o + R.val % 128) (x : Fin 128) :
    k0_pay25 k0_pay15 (k0_pay18 x0 x3) (Scalar.ofBits .f32 0x00000000#32) k0_pay19 kb (ix2 R x) = (seen t z (o + x.val) : EReal) := by
  rw [plus_diag_apply, plus_real hz, seen]
  by_cases h : x.val < R.val % 128
  · rw [if_pos h, if_pos (by omega)]
  · rw [if_neg h, if_neg (by omega), EReal.coe_zero]

theorem carry_diag_real (hu : IsTable u) (hz : Logits (queries x0 x3) kb R z o) (ht : t = o + R.val % 128) (ho : o + 128 ≤ 4096) (l : Fin 128) :
    diagSum x0 x3 u kb (k0_pay21 (F := Ideal)) (ix2 R l) = (tail t z o : EReal) := by
  have hR : R.val % 128 < 128 := Nat.mod_lt _ (by norm_num)
  rw [carry_diag_apply x0 x3 u kb R l (fun x => (seen t z (o + x.val) : EReal)) (plus_diag_seen hz ht),
    table_right hu (seen t z) o _ (fun _ => rfl) _ (by simp), tail_split t z (Nat.le_add_right o 128) ho,
    tail_of_le (show t ≤ o + 128 by omega), add_zero]

theorem weight_diag_real (hu : IsTable u) (hz : Logits (queries x0 x3) kb R z o) (ht : t = o + R.val % 128) (ho : o + 128 ≤ 4096) (x : Fin 128) :
    diagWeight x0 x3 u kb R x (fun x => (seen t z (o + x.val) : EReal)) = (weight t z (o + x.val) : EReal) := by
  have hR : R.val % 128 < 128 := Nat.mod_lt _ (by norm_num)
  have hx := x.isLt
  rw [diagWeight, weight]
  by_cases h : x.val < R.val % 128
  · rw [if_pos h, if_pos (show o + x.val < t by omega), table_left hu (seen t z) o _ (fun _ => rfl) _ hx, logit_real hz, sub_zero, ← EReal.coe_sub,
      ← EReal.coe_sub, Ideal.exp_coe, tail_split t z (show o + x.val + 1 ≤ o + 128 by omega) ho, tail_of_le (show t ≤ o + 128 by omega),
      add_zero]
  · rw [if_neg h, if_neg (show ¬ o + x.val < t by omega), EReal.coe_zero]

/-! ## The sweep -/

/-- The sums and the row after the diagonal block and `n` earlier ones. -/
def swept (x0 : Vec Ideal S128x128 .f32) (x3 : Vec Ideal S1x128 .f32) (u : Vec Ideal S128x256 .bf16) (kn : Vec Ideal S4096x128 .bf16)
    (vm : Vec Ideal S32x256x128 .bf16) (q : Fin 32) (n : ℕ) : FVec Ideal S256x128 .f32 × FVec Ideal S128x128 .f32 :=
  sweep (queries x0 x3) u kn vm q (diagSum x0 x3 u (keyBlock kn q) (k0_pay21 (F := Ideal)),
    diagAcc x0 x3 u (keyBlock kn q) (valBlock vm q) (k0_pay21 (F := Ideal)) (k0_pay22 (F := Ideal))) n

theorem sweep_real (hu : IsTable u) (kn : Vec Ideal S4096x128 .bf16) (vm : Vec Ideal S32x256x128 .bf16) (q : Fin 32) (r l : Fin 128)
    (z0 z1 : ℕ → ℝ) (V0 V1 : ℕ → EReal)
    (hz0 : ∀ b : Fin 32, Logits (queries x0 x3) (keyBlock kn b) (low r) z0 (128 * b.val))
    (hz1 : ∀ b : Fin 32, Logits (queries x0 x3) (keyBlock kn b) (high r) z1 (128 * b.val))
    (hV0 : ∀ (b : Fin 32) (x : Fin 128), vm (ix3 b (low x) l) = V0 (128 * b.val + x.val))
    (hV1 : ∀ (b : Fin 32) (x : Fin 128), vm (ix3 b (high x) l) = V1 (128 * b.val + x.val)) (n : ℕ) (hn : n ≤ q.val) :
    (∀ l' : Fin 128, (swept x0 x3 u kn vm q n).1
        (ix2 (low r) l') = (tail (128 * q.val + r.val) z0 (128 * (q.val - n)) : EReal))
    ∧ (∀ l' : Fin 128, (swept x0 x3 u kn vm q n).1
        (ix2 (high r) l') = (tail (128 * q.val + r.val) z1 (128 * (q.val - n)) : EReal))
    ∧ (swept x0 x3 u kn vm q n).2
        (ix2 r l) = gather (weight (128 * q.val + r.val) z0) (weight (128 * q.val + r.val) z1) V0 V1 (128 * (q.val - n)) := by
  have hq := q.isLt
  have hr := r.isLt
  have ht0 : 128 * q.val + r.val = 128 * q.val + (low r).val % 128 := by show _ = _ + r.val % 128; omega
  have ht1 : 128 * q.val + r.val = 128 * q.val + (high r).val % 128 := by show _ = _ + (128 + r.val) % 128; omega
  induction n with
  | zero =>
    have ho : 128 * q.val + 128 ≤ 4096 := by omega
    rw [Nat.sub_zero]
    refine ⟨fun l' => carry_diag_real hu (hz0 q) ht0 ho l', fun l' => carry_diag_real hu (hz1 q) ht1 ho l', ?_⟩
    show diagAcc x0 x3 u (keyBlock kn q) (valBlock vm q) (k0_pay21 (F := Ideal)) (k0_pay22 (F := Ideal)) (ix2 r l) = _
    rw [acc_diag_apply x0 x3 u _ _ r l _ _ (plus_diag_seen (hz0 q) ht0) (plus_diag_seen (hz1 q) ht1), gather_split _ _ _ _ ho,
      gather_of_zero _ _ _ _ (fun j hj => weight_of_le (by omega)) (fun j hj => weight_of_le (by omega)), zero_add]
    refine congrArg₂ (· + ·) (Finset.sum_congr rfl fun x _ => ?_) (Finset.sum_congr rfl fun x _ => ?_)
    · rw [weight_diag_real hu (hz0 q) ht0 ho]
      exact congrArg _ (hV0 q x)
    · rw [weight_diag_real hu (hz1 q) ht1 ho]
      exact congrArg _ (hV1 q x)
  | succ n ih =>
    obtain ⟨h0, h1, h2⟩ := ih (by omega)
    have e1 : 128 * (q.val - n) = 128 * (q.val - 1 - n) + 128 := by omega
    have e2 : 128 * (q.val - (n + 1)) = 128 * (q.val - 1 - n) := by omega
    have ht : 128 * (q.val - 1 - n) + 128 ≤ 128 * q.val + r.val := by omega
    have ho : 128 * (q.val - 1 - n) + 128 ≤ 4096 := by omega
    rw [e1] at h0 h1 h2
    rw [e2]
    have hz0' := hz0 ⟨q.val - 1 - n, by omega⟩
    have hz1' := hz1 ⟨q.val - 1 - n, by omega⟩
    refine ⟨fun l' => carry_real hu hz0' ht ho _ l' (h0 l'), fun l' => carry_real hu hz1' ht ho _ l' (h1 l'), ?_⟩
    refine (acc_apply _ _ _ r l).trans ?_
    rw [gather_split _ _ _ _ ho]
    refine congrArg₂ (· + ·) h2 (congrArg₂ (· + ·) (Finset.sum_congr rfl fun x _ => ?_) (Finset.sum_congr rfl fun x _ => ?_))
    · rw [weights_apply_low]
      exact congrArg₂ (· * ·) (weight_real hu hz0' ht ho _ x (h0 x)) (hV0 ⟨q.val - 1 - n, by omega⟩ x)
    · rw [weights_apply_high]
      exact congrArg₂ (· * ·) (weight_real hu hz1' ht ho _ x (h1 x)) (hV1 ⟨q.val - 1 - n, by omega⟩ x)

end Cert.KernelIdeal.Rows
-- ==== Proof.Heads.lean ====
/-
  The head-wise words at an index, at the ideal instance: the normalised queries and keys, the masked values and the
  final normalisation, each for lane `64 h + i` of head `h` of the pair.
-/
module

public import proofs.«01_k».proof.Proof.Rows

@[expose] public section

set_option maxRecDepth 16384

noncomputable section

namespace Cert.KernelIdeal.Heads

open Idealize.ShloMosaic Idealize.ShloMosaic.TcCoe Idealize.ShloMosaic.Tactic
open Cert.KernelIdeal Cert.KernelIdeal.Gen Cert.KernelIdeal.Body Cert.KernelIdeal.Rows Cert.Stick

/-- Lane `64 h + i`: coordinate `i` of head `h` of the pair. -/
abbrev lane (h : Fin 2) (i : Fin 64) : Fin 128 := ⟨64 * h.val + i.val, by have := h.isLt; have := i.isLt; omega⟩

theorem select_lane (l : ℕ) (hl : l < 128) (a b : EReal) :
    Scalar.select (IntOp.cmpi CmpIPredicate.slt (BitVec.ofNat 32 l) 64#32) a b = if l < 64 then a else b := by
  rw [WordCmp.cmpi_slt_ofNat (by omega) (by omega)]
  by_cases h : l < 64
  · rw [decide_eq_true h, if_pos h]; rfl
  · rw [decide_eq_false h, if_neg h]; rfl

/-- A sum over the lanes of a pair is one over each head's. -/
theorem sum_lanes (f : Fin 128 → EReal) : ∑ l, f l = (∑ i, f (lane 0 i)) + ∑ i, f (lane 1 i) := by
  rw [Fin.sum_univ_two_halves 64 64 rfl]
  refine congrArg₂ (· + ·) (Finset.sum_congr rfl fun i _ => congrArg f (Fin.ext ?_)) (Finset.sum_congr rfl fun i _ => congrArg f (Fin.ext ?_))
  · show i.val = 64 * 0 + i.val; omega
  · rfl

/-- The sum a lane is divided by, from the two masked sums over the pair. -/
def pairSum (f : Fin 128 → EReal) (l : Fin 128) : EReal :=
  if l.val < 64 then ∑ k : Fin 128, (if k.val < 64 then f k else 0) else ∑ k : Fin 128, (if k.val < 64 then 0 else f k)

theorem pairSum_lane (f : Fin 128 → EReal) (h : Fin 2) (i : Fin 64) : pairSum f (lane h i) = ∑ k, f (lane h k) := by
  unfold pairSum
  have hi := i.isLt
  match h with
  | 0 =>
    rw [if_pos (by show 64 * 0 + i.val < 64; omega), sum_lanes]
    have h0 : ∑ k : Fin 64, (if (lane 1 k).val < 64 then f (lane 1 k) else 0) = 0 :=
      Finset.sum_eq_zero fun k _ => if_neg (by show ¬ 64 * 1 + k.val < 64; omega)
    rw [h0, add_zero]
    exact Finset.sum_congr rfl fun k _ => if_pos (by show 64 * 0 + k.val < 64; omega)
  | 1 =>
    rw [if_neg (by show ¬ 64 * 1 + i.val < 64; omega), sum_lanes]
    have h0 : ∑ k : Fin 64, (if (lane 0 k).val < 64 then 0 else f (lane 0 k)) = 0 :=
      Finset.sum_eq_zero fun k _ => if_pos (by show 64 * 0 + k.val < 64; omega)
    rw [h0, zero_add]
    exact Finset.sum_congr rfl fun k _ => if_neg (by show ¬ 64 * 1 + k.val < 64; omega)

theorem queries_norm (x0 : Vec Ideal S128x128 .f32) (x3 : Vec Ideal S1x128 .f32) (r : Fin 128) (h : Fin 2) (i : Fin 64) :
    k0_pay18 x0 x3 (ix2 r (lane h i))
      = rms (fun k => x0 (ix2 r (lane h k))) i * x3 (ix2 0 (lane h i)) * ((1 / 8 : ℝ) : EReal) := by
  rw [rms, ← word_eighth, ← word_sixtyfourth, ← pairSum_lane (fun k => x0 (ix2 r k) * x0 (ix2 r k)) h i]
  generalize lane h i = l
  pointwise [k0_pay18, k0_pay15]
  simp only [select_lane _ (Fin.isLt _)]
  rfl

theorem keys_norm (x1 : Vec Ideal S4096x128 .f32) (x4 : Vec Ideal S1x128 .f32) (r : Fin 4096) (h : Fin 2) (i : Fin 64) :
    keysOf x1 x4 (ix2 r (lane h i)) = rms (fun k => x1 (ix2 r (lane h k))) i * x4 (ix2 0 (lane h i)) := by
  rw [rms, ← word_sixtyfourth, ← pairSum_lane (fun k => x1 (ix2 r k) * x1 (ix2 r k)) h i]
  generalize lane h i = l
  pointwise [keysOf, k0_pay2, k0_pay15]
  simp only [select_lane _ (Fin.isLt _)]
  rfl

theorem out_norm (A : Vec Ideal S128x128 .f32) (x5 : Vec Ideal S1x128 .f32) (r : Fin 128) (h : Fin 2) (i : Fin 64) :
    k0_pay1 k0_pay15 A x5 (ix2 r (lane h i)) = rms (fun k => A (ix2 r (lane h k))) i * x5 (ix2 0 (lane h i)) := by
  rw [rms, ← word_sixtyfourth, ← pairSum_lane (fun k => A (ix2 r k) * A (ix2 r k)) h i]
  generalize lane h i = l
  pointwise [k0_pay1, k0_pay15]
  simp only [select_lane _ (Fin.isLt _)]
  rfl

theorem queries_low (x0 : Vec Ideal S128x128 .f32) (x3 : Vec Ideal S1x128 .f32) (r l : Fin 128) :
    queries x0 x3 (ix2 (low r) l) = if l.val < 64 then k0_pay18 x0 x3 (ix2 r l) else 0 := by
  have h : queries x0 x3 (ix2 (low r) l)
      = Scalar.select (IntOp.cmpi CmpIPredicate.slt (BitVec.ofNat 32 l.val) 64#32) (k0_pay18 x0 x3 (ix2 r l)) 0 := by
    pointwise [queries, k0_pay20, k0_pay19, k0_pay15]
  rw [h, select_lane _ l.isLt]

theorem queries_high (x0 : Vec Ideal S128x128 .f32) (x3 : Vec Ideal S1x128 .f32) (r l : Fin 128) :
    queries x0 x3 (ix2 (high r) l) = if l.val < 64 then 0 else k0_pay18 x0 x3 (ix2 r l) := by
  have h : queries x0 x3 (ix2 (high r) l)
      = Scalar.select (IntOp.cmpi CmpIPredicate.slt (BitVec.ofNat 32 l.val) 64#32) 0 (k0_pay18 x0 x3 (ix2 r l)) := by
    pointwise [queries, k0_pay20, k0_pay19, k0_pay15]
  rw [h, select_lane _ l.isLt]

theorem vals_low (x2 : Vec Ideal S4096x128 .f32) (b : Fin 32) (x l : Fin 128) :
    valsOf x2 (ix3 b (low x) l)
      = if l.val < 64 then x2 (ix2 ⟨128 * b.val + x.val, by have := b.isLt; have := x.isLt; omega⟩ l) else 0 := by
  unfold valsOf
  have hx : ((ix3 b (low x) l : S32x256x128.Idx) 1).val < 128 := x.isLt
  rw [dif_pos hx]
  have h : k0_pay16 (k0_pay4 k0_pay15 x2) (ix3 b x l) = Scalar.select (IntOp.cmpi CmpIPredicate.slt (BitVec.ofNat 32 l.val) 64#32)
      (x2 (ix2 ⟨128 * b.val + x.val, by have := b.isLt; have := x.isLt; omega⟩ l)) 0 := by
    pointwise [k0_pay16, k0_pay4, k0_pay3, k0_pay15]
    simp only [Nat.mul_comm b.val 128]
  exact h.trans (select_lane _ l.isLt _ _)

theorem vals_high (x2 : Vec Ideal S4096x128 .f32) (b : Fin 32) (x l : Fin 128) :
    valsOf x2 (ix3 b (high x) l)
      = if l.val < 64 then 0 else x2 (ix2 ⟨128 * b.val + x.val, by have := b.isLt; have := x.isLt; omega⟩ l) := by
  unfold valsOf
  have hx : ¬ ((ix3 b (high x) l : S32x256x128.Idx) 1).val < 128 := Nat.not_lt.mpr (Nat.le_add_right 128 x.val)
  rw [dif_neg hx]
  have h : k0_pay17 (k0_pay3 x2) (ix3 b x l) = Scalar.select (IntOp.cmpi CmpIPredicate.slt (BitVec.ofNat 32 l.val) 64#32)
      0 (x2 (ix2 ⟨128 * b.val + x.val, by have := b.isLt; have := x.isLt; omega⟩ l)) := by
    pointwise [k0_pay17, k0_pay3, k0_pay15]
    simp only [Nat.mul_comm b.val 128]
  have e : (⟨((ix3 b (high x) l : S32x256x128.Idx) 1).val - 128, by have := x.isLt; show 128 + x.val - 128 < 128; omega⟩ : Fin 128) = x :=
    Fin.ext (Nat.add_sub_cancel_left 128 x.val)
  refine Eq.trans ?_ (h.trans (select_lane _ l.isLt _ _))
  exact congrArg (fun y : Fin 128 => k0_pay17 (k0_pay3 x2) (ix3 b y l)) e

/-! ## The output block -/

/-- Head `h`'s half of row `r`. -/
abbrev head {n : ℕ} (x : Vec Ideal (⟨2, ![n, 128]⟩ : Shape) .f32) (r : Fin n) (h : Fin 2) : Fin 64 → EReal := fun k => x (ix2 r (lane h k))

/-- Coordinate `k` of head `h`'s values, by key. -/
def column (x2 : Vec Ideal S4096x128 .f32) (h : Fin 2) (k : Fin 64) (s : ℕ) : EReal :=
  if hs : s < 4096 then x2 (ix2 ⟨s, hs⟩ (lane h k)) else 0

theorem logits_low (x0 : Vec Ideal S128x128 .f32) (x3 : Vec Ideal S1x128 .f32) (x1 : Vec Ideal S4096x128 .f32) (x4 : Vec Ideal S1x128 .f32)
    (r : Fin 128) (z : ℕ → ℝ) (hz : ∀ s : Fin 4096, logit (head x0 r 0) (head x1 s 0) (head x3 0 0) (head x4 0 0) = (z s.val : EReal)) (b : Fin 32) :
    Logits (queries x0 x3) (keyBlock (keysOf x1 x4) b) (low r) z (128 * b.val) := by
  intro x
  rw [sum_lanes]
  have h1 : ∑ i : Fin 64, queries x0 x3 (ix2 (low r) (lane 1 i)) * keyBlock (keysOf x1 x4) b (ix2 x (lane 1 i)) = 0 :=
    Finset.sum_eq_zero fun i _ => by rw [queries_low, if_neg (by show ¬ 64 * 1 + i.val < 64; omega), zero_mul]
  rw [h1, add_zero]
  refine Eq.trans (Finset.sum_congr rfl fun i _ => ?_) (hz ⟨128 * b.val + x.val, by have := b.isLt; have := x.isLt; omega⟩)
  rw [queries_low, if_pos (by show 64 * 0 + i.val < 64; have := i.isLt; omega), queries_norm]
  exact congrArg _ (keys_norm x1 x4 _ 0 i)

theorem logits_high (x0 : Vec Ideal S128x128 .f32) (x3 : Vec Ideal S1x128 .f32) (x1 : Vec Ideal S4096x128 .f32) (x4 : Vec Ideal S1x128 .f32)
    (r : Fin 128) (z : ℕ → ℝ) (hz : ∀ s : Fin 4096, logit (head x0 r 1) (head x1 s 1) (head x3 0 1) (head x4 0 1) = (z s.val : EReal)) (b : Fin 32) :
    Logits (queries x0 x3) (keyBlock (keysOf x1 x4) b) (high r) z (128 * b.val) := by
  intro x
  rw [sum_lanes]
  have h1 : ∑ i : Fin 64, queries x0 x3 (ix2 (high r) (lane 0 i)) * keyBlock (keysOf x1 x4) b (ix2 x (lane 0 i)) = 0 :=
    Finset.sum_eq_zero fun i _ => by rw [queries_high, if_pos (by show 64 * 0 + i.val < 64; have := i.isLt; omega), zero_mul]
  rw [h1, zero_add]
  refine Eq.trans (Finset.sum_congr rfl fun i _ => ?_) (hz ⟨128 * b.val + x.val, by have := b.isLt; have := x.isLt; omega⟩)
  rw [queries_high, if_neg (by show ¬ 64 * 1 + i.val < 64; omega), queries_norm]
  exact congrArg _ (keys_norm x1 x4 _ 1 i)

/-- The attention row after the whole sweep. -/
theorem row_apply {u : Vec Ideal S128x256 .bf16} (hu : IsTable u) (q : Fin 32) (x0 : Vec Ideal S128x128 .f32) (x3 : Vec Ideal S1x128 .f32)
    (x1 : Vec Ideal S4096x128 .f32) (x4 : Vec Ideal S1x128 .f32) (x2 : Vec Ideal S4096x128 .f32) (r : Fin 128) (z : Fin 2 → ℕ → ℝ)
    (hz : ∀ (h : Fin 2) (s : Fin 4096), logit (head x0 r h) (head x1 s h) (head x3 0 h) (head x4 0 h) = (z h s.val : EReal)) (h : Fin 2) (k : Fin 64) :
    (swept x0 x3 u (keysOf x1 x4) (valsOf x2) q q.val).2 (ix2 r (lane h k)) = attend (128 * q.val + r.val) (z h) (column x2 h k) := by
  have hk := k.isLt
  match h with
  | 0 =>
    refine ((sweep_real hu (keysOf x1 x4) (valsOf x2) q r (lane 0 k) (z 0) (z 1) (column x2 0 k) (fun _ => 0)
      (logits_low x0 x3 x1 x4 r _ (hz 0)) (logits_high x0 x3 x1 x4 r _ (hz 1)) (fun b x => ?_) (fun b x => ?_) q.val le_rfl).2.2).trans ?_
    · rw [vals_low, if_pos (by show 64 * 0 + k.val < 64; omega), column, dif_pos (by have := b.isLt; have := x.isLt; omega)]
    · rw [vals_high, if_pos (by show 64 * 0 + k.val < 64; omega)]
    · rw [gather_left, Nat.sub_self, Nat.mul_zero]
      rfl
  | 1 =>
    refine ((sweep_real hu (keysOf x1 x4) (valsOf x2) q r (lane 1 k) (z 0) (z 1) (fun _ => 0) (column x2 1 k)
      (logits_low x0 x3 x1 x4 r _ (hz 0)) (logits_high x0 x3 x1 x4 r _ (hz 1)) (fun b x => ?_) (fun b x => ?_) q.val le_rfl).2.2).trans ?_
    · rw [vals_low, if_neg (by show ¬ 64 * 1 + k.val < 64; omega)]
    · rw [vals_high, if_neg (by show ¬ 64 * 1 + k.val < 64; omega), column, dif_pos (by have := b.isLt; have := x.isLt; omega)]
    · rw [gather_right, Nat.sub_self, Nat.mul_zero]
      rfl

theorem outBlock_apply {u : Vec Ideal S128x256 .bf16} (hu : IsTable u) (q : Fin 32) (x0 : Vec Ideal S128x128 .f32) (x3 x5 : Vec Ideal S1x128 .f32)
    (x1 : Vec Ideal S4096x128 .f32) (x4 : Vec Ideal S1x128 .f32) (x2 : Vec Ideal S4096x128 .f32) (r : Fin 128) (z : Fin 2 → ℕ → ℝ)
    (hz : ∀ (h : Fin 2) (s : Fin 4096), logit (head x0 r h) (head x1 s h) (head x3 0 h) (head x4 0 h) = (z h s.val : EReal)) (h : Fin 2) (i : Fin 64) :
    outBlock q x0 x3 x5 u (keysOf x1 x4) (valsOf x2) (ix2 r (lane h i))
      = rms (fun k => attend (128 * q.val + r.val) (z h) (column x2 h k)) i * x5 (ix2 0 (lane h i)) := by
  refine (out_norm _ x5 r h i).trans ?_
  refine congrArg (fun f => rms f i * x5 (ix2 0 (lane h i))) (funext fun k => ?_)
  exact row_apply hu q x0 x3 x1 x4 x2 r z hz h k

end Cert.KernelIdeal.Heads
-- ==== Proof.Table.lean ====
/-
  The constant operand: the strictly lower triangle beside a block of ones.
-/
module

public import proofs.«01_k».proof.Proof.Rows
public import Idealize.ShloMosaic.Lib.IdealHost

@[expose] public section

set_option maxRecDepth 65536
set_option maxHeartbeats 4000000

noncomputable section

namespace Cert.KernelIdeal.Table

open Idealize.ShloMosaic Idealize.ShloMosaic.TcCoe
open Cert.KernelIdeal Cert.KernelIdeal.Gen Cert.KernelIdeal.Rows

/-- One digit of an index picks one of 128 values. -/
def pick (f : ℕ → BitVec 16) (n : ℕ) : BitVec 16 := match n with
  | 0 => f 0
  | 1 => f 1
  | 2 => f 2
  | 3 => f 3
  | 4 => f 4
  | 5 => f 5
  | 6 => f 6
  | 7 => f 7
  | 8 => f 8
  | 9 => f 9
  | 10 => f 10
  | 11 => f 11
  | 12 => f 12
  | 13 => f 13
  | 14 => f 14
  | 15 => f 15
  | 16 => f 16
  | 17 => f 17
  | 18 => f 18
  | 19 => f 19
  | 20 => f 20
  | 21 => f 21
  | 22 => f 22
  | 23 => f 23
  | 24 => f 24
  | 25 => f 25
  | 26 => f 26
  | 27 => f 27
  | 28 => f 28
  | 29 => f 29
  | 30 => f 30
  | 31 => f 31
  | 32 => f 32
  | 33 => f 33
  | 34 => f 34
  | 35 => f 35
  | 36 => f 36
  | 37 => f 37
  | 38 => f 38
  | 39 => f 39
  | 40 => f 40
  | 41 => f 41
  | 42 => f 42
  | 43 => f 43
  | 44 => f 44
  | 45 => f 45
  | 46 => f 46
  | 47 => f 47
  | 48 => f 48
  | 49 => f 49
  | 50 => f 50
  | 51 => f 51
  | 52 => f 52
  | 53 => f 53
  | 54 => f 54
  | 55 => f 55
  | 56 => f 56
  | 57 => f 57
  | 58 => f 58
  | 59 => f 59
  | 60 => f 60
  | 61 => f 61
  | 62 => f 62
  | 63 => f 63
  | 64 => f 64
  | 65 => f 65
  | 66 => f 66
  | 67 => f 67
  | 68 => f 68
  | 69 => f 69
  | 70 => f 70
  | 71 => f 71
  | 72 => f 72
  | 73 => f 73
  | 74 => f 74
  | 75 => f 75
  | 76 => f 76
  | 77 => f 77
  | 78 => f 78
  | 79 => f 79
  | 80 => f 80
  | 81 => f 81
  | 82 => f 82
  | 83 => f 83
  | 84 => f 84
  | 85 => f 85
  | 86 => f 86
  | 87 => f 87
  | 88 => f 88
  | 89 => f 89
  | 90 => f 90
  | 91 => f 91
  | 92 => f 92
  | 93 => f 93
  | 94 => f 94
  | 95 => f 95
  | 96 => f 96
  | 97 => f 97
  | 98 => f 98
  | 99 => f 99
  | 100 => f 100
  | 101 => f 101
  | 102 => f 102
  | 103 => f 103
  | 104 => f 104
  | 105 => f 105
  | 106 => f 106
  | 107 => f 107
  | 108 => f 108
  | 109 => f 109
  | 110 => f 110
  | 111 => f 111
  | 112 => f 112
  | 113 => f 113
  | 114 => f 114
  | 115 => f 115
  | 116 => f 116
  | 117 => f 117
  | 118 => f 118
  | 119 => f 119
  | 120 => f 120
  | 121 => f 121
  | 122 => f 122
  | 123 => f 123
  | 124 => f 124
  | 125 => f 125
  | 126 => f 126
  | 127 => f 127
  | _ => 0#16

theorem pick_lt (f : ℕ → BitVec 16) (n : ℕ) (h : n < 128) : pick f n = f n := by
  have e : ∀ k : Fin 128, pick f k.val = f k.val := by
    intro k
    fin_cases k <;> rfl
  exact e ⟨n, h⟩

/-- The word at place `x` of run `k` of 128 entries: row `k / 2`, its left half when `k` is even. -/
def word (k x : ℕ) : BitVec 16 := bif Nat.beq (k % 2) 0 then (bif Nat.blt x (k / 2) then 0x3F80#16 else 0x0000#16) else 0x3F80#16

theorem half_left (i : ℕ) : lit0t1_0 i = pick (fun k => pick (word k) (i % 128)) (i / 128 % 128) := rfl

theorem half_right (i : ℕ) : lit0t1_1 i = pick (fun k => pick (word (128 + k)) (i % 128)) (i / 128 % 128) := rfl

theorem entry (i : ℕ) (h : i < 32768) : lit0t i = word (i / 128) (i % 128) := by
  have hx : i % 128 < 128 := Nat.mod_lt _ (by norm_num)
  have hk : i / 128 % 128 < 128 := Nat.mod_lt _ (by norm_num)
  rcases Nat.lt_or_ge i 16384 with h0 | h0
  · have e : i / 16384 = 0 := by omega
    have e' : lit0t i = lit0t1_0 i := by unfold lit0t; rw [e]; rfl
    rw [e', half_left, pick_lt _ _ hk, pick_lt _ _ hx, show i / 128 % 128 = i / 128 by omega]
  · have e : i / 16384 = 1 := by omega
    have e' : lit0t i = lit0t1_1 i := by unfold lit0t; rw [e]; rfl
    rw [e', half_right, pick_lt _ _ hk, pick_lt _ _ hx, show 128 + i / 128 % 128 = i / 128 by omega]

theorem isTable : IsTable (fun i => FloatOps.ofBits (F := Ideal) .bf16 (lit0 (S128x256.rowMajor i))) := by
  intro j l
  have hj := j.isLt; have hl := l.isLt
  have hv : (S128x256.rowMajor (ix2 j l)).val = j.val * 256 + l.val := Shape.rowMajor_val_two _
  have hb : j.val * 256 + l.val < 32768 := by omega
  show Ideal.ofBits .bf16 (lit0t (S128x256.rowMajor (ix2 j l)).val) = _
  refine (congrArg (Ideal.ofBits .bf16) ((congrArg lit0t hv).trans (entry _ hb))).trans ?_
  unfold word
  by_cases h1 : l.val < 128
  · rw [if_pos h1, show (j.val * 256 + l.val) / 128 % 2 = 0 by omega, show (j.val * 256 + l.val) / 128 / 2 = j.val by omega,
      show (j.val * 256 + l.val) % 128 = l.val by omega]
    by_cases h2 : l.val < j.val
    · rw [if_pos h2, show Nat.blt l.val j.val = true by simpa using h2]; exact Ideal.ofBits_one_bf16
    · rw [if_neg h2, show Nat.blt l.val j.val = false from Bool.eq_false_iff.mpr fun hb => h2 (Nat.le_of_ble_eq_true hb)]; exact Ideal.ofBits_zero_bf16
  · rw [if_neg h1, show (j.val * 256 + l.val) / 128 % 2 = 1 by omega]; exact Ideal.ofBits_one_bf16

end Cert.KernelIdeal.Table
-- ==== Proof.Sweep.lean ====
/-
  The attention kernel's result array: what each grid point writes, over the blocks of the launch's arrays.
-/
module

public import proofs.«01_k».proof.Proof.Heads
public import proofs.«01_k».proof.Proof.Table
public import proofs.«01_k».proof.Proof.Gen.KernelIdeal.Value
public import Idealize.ShloMosaic.Lib.Pipeline.ValueKit
public import Idealize.ShloMosaic.Lib.Pipeline.ValueKit.Held
public import Idealize.ShloMosaic.Lib.IdealHost

@[expose] public section

set_option maxRecDepth 16384

noncomputable section

namespace Cert.KernelIdeal.Sweep

open Idealize.ShloMosaic Idealize.ShloMosaic.TcCoe Idealize.ShloMosaic.Tactic Idealize.SL.Sem
open Cert.KernelIdeal Cert.KernelIdeal.Gen Cert.KernelIdeal.Value Cert.KernelIdeal.Body Cert.KernelIdeal.Rows Cert.KernelIdeal.Heads
open Cert.Stick

theorem index_0 : ∀ t : Fin cfg0.N, win0_0.index t = ![32 * (t.val / 96) + t.val % 32, 28 + t.val / 32 % 3] :=
  (by decide +kernel : ∀ t : Fin grid0.N, _)
theorem index_1 : ∀ t : Fin cfg0.N, win0_1.index t = ![t.val / 96, 31 + t.val / 32 % 3] := (by decide +kernel : ∀ t : Fin grid0.N, _)
theorem index_2 : ∀ t : Fin cfg0.N, win0_2.index t = ![t.val / 96, 34 + t.val / 32 % 3] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![32 * (t.val / 96) + t.val % 32, t.val / 32 % 3] :=
  (by decide +kernel : ∀ t : Fin grid0.N, _)
theorem qblk_eq : ∀ t : Fin cfg0.N, (qblk (grid0.coords t)).val = t.val % 32 := (by decide +kernel : ∀ t : Fin grid0.N, _)

variable (m : (ℓ : Loc nD τ sig) → Buf (Elt Ideal) ℓ) (c : Dev nD)

/-! ## The blocks -/

theorem queries_read (t : Fin cfg0.N) (r : Fin 128) (l : Fin 128) (i : S16384x4864.Idx)
    (h0 : (i 0).val = 128 * (32 * (t.val / 96) + t.val % 32) + r.val) (h1 : (i 1).val = 128 * (28 + t.val / 32 % 3) + l.val) :
    (iblk m c 0 t : Vec Ideal S128x128 .f32) (ix2 r l) = m ((c : Thread nD τ).loc main_arg0) i := by
  refine Eq.trans ?_ (congrFun (V_main_arg0 m c) i)
  show V m c main_arg0 ((win0_0.blk t).view.emb (ix2 r l)) = V m c main_arg0 i
  refine congrArg (V m c main_arg0) (funext fun a => Fin.ext ?_)
  match a with
  | ⟨0, _⟩ => show win0_0.index t 0 * 128 + 1 * r.val = (i 0).val; rw [index_0]; show (32 * (t.val / 96) + t.val % 32) * 128 + 1 * r.val = (i 0).val; omega
  | ⟨1, _⟩ => show win0_0.index t 1 * 128 + 1 * l.val = (i 1).val; rw [index_0]; show (28 + t.val / 32 % 3) * 128 + 1 * l.val = (i 1).val; omega

theorem keys_read (t : Fin cfg0.N) (r : Fin 4096) (l : Fin 128) (i : S16384x4864.Idx)
    (h0 : (i 0).val = 4096 * (t.val / 96) + r.val) (h1 : (i 1).val = 128 * (31 + t.val / 32 % 3) + l.val) :
    (iblk m c 1 t : Vec Ideal S4096x128 .f32) (ix2 r l) = m ((c : Thread nD τ).loc main_arg0) i := by
  refine Eq.trans ?_ (congrFun (V_main_arg0 m c) i)
  show V m c main_arg0 ((win0_1.blk t).view.emb (ix2 r l)) = V m c main_arg0 i
  refine congrArg (V m c main_arg0) (funext fun a => Fin.ext ?_)
  match a with
  | ⟨0, _⟩ => show win0_1.index t 0 * 4096 + 1 * r.val = (i 0).val; rw [index_1]; show (t.val / 96) * 4096 + 1 * r.val = (i 0).val; omega
  | ⟨1, _⟩ => show win0_1.index t 1 * 128 + 1 * l.val = (i 1).val; rw [index_1]; show (31 + t.val / 32 % 3) * 128 + 1 * l.val = (i 1).val; omega

theorem values_read (t : Fin cfg0.N) (r : Fin 4096) (l : Fin 128) (i : S16384x4864.Idx)
    (h0 : (i 0).val = 4096 * (t.val / 96) + r.val) (h1 : (i 1).val = 128 * (34 + t.val / 32 % 3) + l.val) :
    (iblk m c 2 t : Vec Ideal S4096x128 .f32) (ix2 r l) = m ((c : Thread nD τ).loc main_arg0) i := by
  refine Eq.trans ?_ (congrFun (V_main_arg0 m c) i)
  show V m c main_arg0 ((win0_2.blk t).view.emb (ix2 r l)) = V m c main_arg0 i
  refine congrArg (V m c main_arg0) (funext fun a => Fin.ext ?_)
  match a with
  | ⟨0, _⟩ => show win0_2.index t 0 * 4096 + 1 * r.val = (i 0).val; rw [index_2]; show (t.val / 96) * 4096 + 1 * r.val = (i 0).val; omega
  | ⟨1, _⟩ => show win0_2.index t 1 * 128 + 1 * l.val = (i 1).val; rw [index_2]; show (34 + t.val / 32 % 3) * 128 + 1 * l.val = (i 1).val; omega

theorem query_gain_entry (h : Fin 2) (k : Fin 64) : V m c main_v3 (ix2 0 (lane h k)) = m ((c : Thread nD τ).loc main_arg1) (ix1 k) := by
  entry_read
  pointwise
  refine congrArg (m _) (congrArg ix1 (Fin.ext ?_))
  show (64 * h.val + k.val) % 64 = k.val
  have := k.isLt
  omega

theorem query_gain (t : Fin cfg0.N) (h : Fin 2) (k : Fin 64) :
    (iblk m c 3 t : Vec Ideal S1x128 .f32) (ix2 0 (lane h k)) = m ((c : Thread nD τ).loc main_arg1) (ix1 k) := by
  refine Eq.trans ?_ (query_gain_entry m c h k)
  show V m c main_v3 ((win0_3.blk t).view.emb (ix2 0 (lane h k))) = V m c main_v3 (ix2 0 (lane h k))
  refine congrArg (V m c main_v3) (funext fun a => Fin.ext ?_)
  match a with
  | ⟨0, _⟩ => show win0_3.index t 0 * 1 + 1 * 0 = 0; rw [index_3]; rfl
  | ⟨1, _⟩ => show win0_3.index t 1 * 128 + 1 * (lane h k).val = (lane h k).val; rw [index_3]; show 0 * 128 + 1 * (lane h k).val = (lane h k).val; omega

theorem key_gain_entry (h : Fin 2) (k : Fin 64) : V m c main_v7 (ix2 0 (lane h k)) = m ((c : Thread nD τ).loc main_arg2) (ix1 k) := by
  entry_read
  pointwise
  refine congrArg (m _) (congrArg ix1 (Fin.ext ?_))
  show (64 * h.val + k.val) % 64 = k.val
  have := k.isLt
  omega

theorem key_gain (t : Fin cfg0.N) (h : Fin 2) (k : Fin 64) :
    (iblk m c 4 t : Vec Ideal S1x128 .f32) (ix2 0 (lane h k)) = m ((c : Thread nD τ).loc main_arg2) (ix1 k) := by
  refine Eq.trans ?_ (key_gain_entry m c h k)
  show V m c main_v7 ((win0_4.blk t).view.emb (ix2 0 (lane h k))) = V m c main_v7 (ix2 0 (lane h k))
  refine congrArg (V m c main_v7) (funext fun a => Fin.ext ?_)
  match a with
  | ⟨0, _⟩ => show win0_4.index t 0 * 1 + 1 * 0 = 0; rw [index_4]; rfl
  | ⟨1, _⟩ => show win0_4.index t 1 * 128 + 1 * (lane h k).val = (lane h k).val; rw [index_4]; show 0 * 128 + 1 * (lane h k).val = (lane h k).val; omega

theorem output_gain_entry (h : Fin 2) (k : Fin 64) : V m c main_v11 (ix2 0 (lane h k)) = m ((c : Thread nD τ).loc main_arg3) (ix1 k) := by
  entry_read
  pointwise
  refine congrArg (m _) (congrArg ix1 (Fin.ext ?_))
  show (64 * h.val + k.val) % 64 = k.val
  have := k.isLt
  omega

theorem output_gain (t : Fin cfg0.N) (h : Fin 2) (k : Fin 64) :
    (iblk m c 5 t : Vec Ideal S1x128 .f32) (ix2 0 (lane h k)) = m ((c : Thread nD τ).loc main_arg3) (ix1 k) := by
  refine Eq.trans ?_ (output_gain_entry m c h k)
  show V m c main_v11 ((win0_5.blk t).view.emb (ix2 0 (lane h k))) = V m c main_v11 (ix2 0 (lane h k))
  refine congrArg (V m c main_v11) (funext fun a => Fin.ext ?_)
  match a with
  | ⟨0, _⟩ => show win0_5.index t 0 * 1 + 1 * 0 = 0; rw [index_5]; rfl
  | ⟨1, _⟩ => show win0_5.index t 1 * 128 + 1 * (lane h k).val = (lane h k).val; rw [index_5]; show 0 * 128 + 1 * (lane h k).val = (lane h k).val; omega

theorem table_entry : V m c main_cst = fun i => FloatOps.ofBits (F := Ideal) .bf16 (lit0 (S128x256.rowMajor i)) := by
  entry_read
  rfl

theorem table_block (t : Fin cfg0.N) : IsTable (iblk m c 6 t : Vec Ideal S128x256 .bf16) := by
  intro j l
  refine Eq.trans ?_ (Table.isTable j l)
  refine Eq.trans ?_ (congrFun (table_entry m c) (ix2 j l))
  show V m c main_cst ((win0_6.blk t).view.emb (ix2 j l)) = V m c main_cst (ix2 j l)
  refine congrArg (V m c main_cst) (funext fun a => Fin.ext ?_)
  match a with
  | ⟨0, _⟩ => show win0_6.index t 0 * 128 + 1 * j.val = j.val; rw [index_6]; show 0 * 128 + 1 * j.val = j.val; omega
  | ⟨1, _⟩ => show win0_6.index t 1 * 256 + 1 * l.val = l.val; rw [index_6]; show 0 * 256 + 1 * l.val = l.val; omega

/-! ## The carried scratch -/

/-- The first grid point of the head pair of point `t`. -/
def first (t : Fin cfg0.N) : Fin cfg0.N := ⟨32 * (t.val / 32), lt_of_le_of_lt (Nat.mul_div_le _ _) t.isLt⟩

set_option maxHeartbeats 1000000 in
theorem keys_first (t : Fin cfg0.N) (h0 : t.val % 32 = 0) : (outsAt0 m c t.val t.isLt).2.1 = keysOf (iblk m c 1 t) (iblk m c 4 t) :=
  by
  refine (congrArg (fun p => p.2.1) (outsAt0_A m c t h0)).trans ?_
  dsimp only
  exact (scratch_keys (F := Ideal) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) c (grid0.coords t) ((hcond0_0 t).mpr h0) (iblk m c 0 t) (iblk m c 1 t) (iblk m c 2 t) (iblk m c 3 t) (iblk m c 4 t) (iblk m c 5 t) (iblk m c 6 t))

theorem keys_next (t : Fin cfg0.N) (h0 : ¬t.val % 32 = 0) : (outsAt0 m c t.val t.isLt).2.1
    = (outsAt0 m c (t.val - 1) (Nat.lt_of_le_of_lt (Nat.sub_le _ _) t.isLt)).2.1 := by
  refine (congrArg (fun p => p.2.1) (outsAt0_B m c t h0)).trans ?_
  dsimp only
  unfold sout0_B_0
  rfl

theorem keys_held (t : Fin cfg0.N) : (outsAt0 m c t.val t.isLt).2.1 = keysOf (iblk m c 1 (first t)) (iblk m c 4 (first t)) :=
  Pipeline.eq_of_write_hold (fun n h => (outsAt0 m c n h).2.1) 32 (fun t => keysOf (iblk m c 1 t) (iblk m c 4 t)) (keys_first m c) (keys_next m c) t

theorem vals_first (t : Fin cfg0.N) (h0 : t.val % 32 = 0) : (outsAt0 m c t.val t.isLt).2.2 = valsOf (iblk m c 2 t) :=
  (congrArg (fun p => p.2.2) (outsAt0_A m c t h0)).trans
    (scratch_vals (F := Ideal) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) c (grid0.coords t) ((hcond0_0 t).mpr h0) (iblk m c 0 t) (iblk m c 1 t) (iblk m c 2 t) (iblk m c 3 t) (iblk m c 4 t) (iblk m c 5 t) (iblk m c 6 t))

theorem vals_next (t : Fin cfg0.N) (h0 : ¬t.val % 32 = 0) : (outsAt0 m c t.val t.isLt).2.2
    = (outsAt0 m c (t.val - 1) (Nat.lt_of_le_of_lt (Nat.sub_le _ _) t.isLt)).2.2 := by
  refine (congrArg (fun p => p.2.2) (outsAt0_B m c t h0)).trans ?_
  dsimp only
  unfold sout0_B_1
  rfl

theorem vals_held (t : Fin cfg0.N) : (outsAt0 m c t.val t.isLt).2.2 = valsOf (iblk m c 2 (first t)) :=
  Pipeline.eq_of_write_hold (fun n h => (outsAt0 m c n h).2.2) 32 (fun t => valsOf (iblk m c 2 t)) (vals_first m c) (vals_next m c) t

/-- The keys, the values and the key gain are the same at every point of a head pair. -/
theorem keys_block (t s : Fin cfg0.N) (h : s.val / 32 = t.val / 32) : iblk m c 1 s = iblk m c 1 t := by
  have e : win0_1.index s = win0_1.index t := by rw [index_1, index_1, show s.val / 96 = t.val / 96 by omega, h]
  funext y
  show V m c main_arg0 ((win0_1.blk s).view.emb y) = V m c main_arg0 ((win0_1.blk t).view.emb y)
  refine congrArg (V m c main_arg0) (funext fun a => Fin.ext ?_)
  match a with
  | ⟨0, _⟩ => show win0_1.index s 0 * 4096 + 1 * (y 0).val = win0_1.index t 0 * 4096 + 1 * (y 0).val; rw [e]
  | ⟨1, _⟩ => show win0_1.index s 1 * 128 + 1 * (y 1).val = win0_1.index t 1 * 128 + 1 * (y 1).val; rw [e]

theorem vals_block (t s : Fin cfg0.N) (h : s.val / 32 = t.val / 32) : iblk m c 2 s = iblk m c 2 t := by
  have e : win0_2.index s = win0_2.index t := by rw [index_2, index_2, show s.val / 96 = t.val / 96 by omega, h]
  funext y
  show V m c main_arg0 ((win0_2.blk s).view.emb y) = V m c main_arg0 ((win0_2.blk t).view.emb y)
  refine congrArg (V m c main_arg0) (funext fun a => Fin.ext ?_)
  match a with
  | ⟨0, _⟩ => show win0_2.index s 0 * 4096 + 1 * (y 0).val = win0_2.index t 0 * 4096 + 1 * (y 0).val; rw [e]
  | ⟨1, _⟩ => show win0_2.index s 1 * 128 + 1 * (y 1).val = win0_2.index t 1 * 128 + 1 * (y 1).val; rw [e]

theorem gain_block (t s : Fin cfg0.N) : iblk m c 4 s = iblk m c 4 t := by
  have e : win0_4.index s = win0_4.index t := by rw [index_4, index_4]
  funext y
  show V m c main_v7 ((win0_4.blk s).view.emb y) = V m c main_v7 ((win0_4.blk t).view.emb y)
  refine congrArg (V m c main_v7) (funext fun a => Fin.ext ?_)
  match a with
  | ⟨0, _⟩ => show win0_4.index s 0 * 1 + 1 * (y 0).val = win0_4.index t 0 * 1 + 1 * (y 0).val; rw [e]
  | ⟨1, _⟩ => show win0_4.index s 1 * 128 + 1 * (y 1).val = win0_4.index t 1 * 128 + 1 * (y 1).val; rw [e]

/-! ## What a point writes -/

theorem written (t : Fin cfg0.N) : (outsAt0 m c t.val t.isLt).1
    = outBlock (qblk (grid0.coords t)) (iblk m c 0 t) (iblk m c 3 t) (iblk m c 5 t) (iblk m c 6 t)
        (keysOf (iblk m c 1 t) (iblk m c 4 t)) (valsOf (iblk m c 2 t)) := by
  by_cases h0 : t.val % 32 = 0
  · exact (congrArg (fun p => p.1) (outsAt0_A m c t h0)).trans
      (run_A (F := Ideal) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) c (grid0.coords t) ((hcond0_0 t).mpr h0) (iblk m c 0 t) (iblk m c 1 t) (iblk m c 2 t) (iblk m c 3 t) (iblk m c 4 t) (iblk m c 5 t) (iblk m c 6 t))
  · have hp : t.val - 1 < cfg0.N := Nat.lt_of_le_of_lt (Nat.sub_le _ _) t.isLt
    have hf : (first ⟨t.val - 1, hp⟩).val / 32 = t.val / 32 := by show 32 * ((t.val - 1) / 32) / 32 = t.val / 32; omega
    have hk := keys_held m c ⟨t.val - 1, hp⟩
    have hv := vals_held m c ⟨t.val - 1, hp⟩
    rw [keys_block m c t _ hf, gain_block m c t _] at hk
    rw [vals_block m c t _ hf] at hv
    rw [← hk, ← hv]
    exact (congrArg (fun p => p.1) (outsAt0_B m c t h0)).trans
      (run_B (F := Ideal) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) c (grid0.coords t) (fun h => h0 ((hcond0_0 t).mp h)) (iblk m c 0 t) (iblk m c 1 t) (iblk m c 2 t) (iblk m c 3 t) (iblk m c 4 t) (iblk m c 5 t) (iblk m c 6 t) _ _)

/-! ## The result -/

variable (hq : ∀ i : Fin 64, ∃ r : ℝ, m ((c : Thread nD τ).loc main_arg1) (ix1 i) = (r : EReal))
variable (hk : ∀ i : Fin 64, ∃ r : ℝ, m ((c : Thread nD τ).loc main_arg2) (ix1 i) = (r : EReal))

/-- The attention, from the launch's arrays. -/
abbrev G : (⟨2, ![16384, 384]⟩ : Shape).Idx → EReal :=
  attention (m ((c : Thread nD τ).loc main_arg0)) (fun k => m ((c : Thread nD τ).loc main_arg1) (ix1 k))
    (fun k => m ((c : Thread nD τ).loc main_arg2) (ix1 k)) (fun k => m ((c : Thread nD τ).loc main_arg3) (ix1 k))

include hq hk in
theorem written_apply (t : Fin cfg0.N) (r l : Fin 128) (i : (⟨2, ![16384, 384]⟩ : Shape).Idx)
    (h0 : (i 0).val = 128 * (32 * (t.val / 96) + t.val % 32) + r.val) (h1 : (i 1).val = 128 * (t.val / 32 % 3) + l.val) :
    ((outsAt0 m c t.val t.isLt).1 : Vec Ideal S128x128 .bf16) (ix2 r l) = G m c i := by
  have hN : t.val < 384 := lt_of_lt_of_eq t.isLt N_0
  have hr := r.isLt
  have hl := l.isLt
  obtain ⟨h, k, rfl⟩ : ∃ (h : Fin 2) (k : Fin 64), l = lane h k :=
    ⟨⟨l.val / 64, by omega⟩, ⟨l.val % 64, by omega⟩, Fin.ext (by show l.val = 64 * (l.val / 64) + l.val % 64; omega)⟩
  have hh := h.isLt
  have hkk := k.isLt
  have h1' : (i 1).val = 128 * (t.val / 32 % 3) + (64 * h.val + k.val) := h1
  let b : Fin 4 := ⟨t.val / 96, by omega⟩
  let hd : Fin 2 → Fin 6 := fun h => ⟨2 * (t.val / 32 % 3) + h.val, by have := h.isLt; omega⟩
  let tq : Fin 4096 := ⟨128 * (t.val % 32) + r.val, by omega⟩
  have eq0 : ∀ h : Fin 2, head (iblk m c 0 t : Vec Ideal S128x128 .f32) r h = headRow (m ((c : Thread nD τ).loc main_arg0)) 0 b (hd h) tq := by
    intro h
    funext k
    refine queries_read m c t r (lane h k) _ ?_ ?_
    · show 4096 * (t.val / 96) + (128 * (t.val % 32) + r.val) = _; omega
    · show 3584 + 384 * 0 + 64 * (2 * (t.val / 32 % 3) + h.val) + k.val = 128 * (28 + t.val / 32 % 3) + (64 * h.val + k.val); omega
  have eq1 : ∀ (h : Fin 2) (s : Fin 4096), head (iblk m c 1 t : Vec Ideal S4096x128 .f32) s h = headRow (m ((c : Thread nD τ).loc main_arg0)) 1 b (hd h) s := by
    intro h s
    funext k
    refine keys_read m c t s (lane h k) _ ?_ ?_
    · show 4096 * (t.val / 96) + s.val = _; omega
    · show 3584 + 384 * 1 + 64 * (2 * (t.val / 32 % 3) + h.val) + k.val = 128 * (31 + t.val / 32 % 3) + (64 * h.val + k.val); omega
  have eq2 : ∀ k : Fin 64, column (iblk m c 2 t : Vec Ideal S4096x128 .f32) h k = valueColumn (m ((c : Thread nD τ).loc main_arg0)) b (hd h) k := by
    intro k
    funext s
    unfold column valueColumn
    split
    · next hs =>
      refine values_read m c t ⟨s, hs⟩ (lane h k) _ ?_ ?_
      · show 4096 * (t.val / 96) + s = 4096 * (t.val / 96) + s; rfl
      · show 3584 + 384 * 2 + 64 * (2 * (t.val / 32 % 3) + h.val) + k.val = 128 * (34 + t.val / 32 % 3) + (64 * h.val + k.val); omega
    · rfl
  have g3 : ∀ h : Fin 2, head (iblk m c 3 t : Vec Ideal S1x128 .f32) 0 h = fun k => m ((c : Thread nD τ).loc main_arg1) (ix1 k) :=
    fun h => funext fun k => query_gain m c t h k
  have g4 : ∀ h : Fin 2, head (iblk m c 4 t : Vec Ideal S1x128 .f32) 0 h = fun k => m ((c : Thread nD τ).loc main_arg2) (ix1 k) :=
    fun h => funext fun k => key_gain m c t h k
  have e := outBlock_apply (table_block m c t) (qblk (grid0.coords t)) (iblk m c 0 t) (iblk m c 3 t) (iblk m c 5 t) (iblk m c 1 t) (iblk m c 4 t) (iblk m c 2 t) r
    (fun h => logits (m ((c : Thread nD τ).loc main_arg0)) (fun k => m ((c : Thread nD τ).loc main_arg1) (ix1 k))
      (fun k => m ((c : Thread nD τ).loc main_arg2) (ix1 k)) b (hd h) tq)
    (fun h s => by rw [eq0, eq1, g3, g4]; exact (logits_real _ _ _ hq hk b (hd h) tq s).1) h k
  rw [← written m c t] at e
  refine e.trans ?_
  have hb : 128 * (qblk (grid0.coords t)).val + r.val = tq.val := by rw [qblk_eq]
  rw [hb, funext eq2, output_gain m c t h k]
  exact (attention_apply (m ((c : Thread nD τ).loc main_arg0)) (fun k => m ((c : Thread nD τ).loc main_arg1) (ix1 k))
    (fun k => m ((c : Thread nD τ).loc main_arg2) (ix1 k)) (fun k => m ((c : Thread nD τ).loc main_arg3) (ix1 k)) i b (hd h) tq k (by show (i 0).val = 4096 * (t.val / 96) + (128 * (t.val % 32) + r.val); omega)
    (by show (i 1).val = 64 * (2 * (t.val / 32 % 3) + h.val) + k.val; omega)).symm

include hq hk in
theorem result_eq : (dats m 0 c).arrAt 7 cfg0.N = G m c := by
  refine (dats m 0 c).arrAt_eq_of_covers 7 _ (by decide +kernel) fun t hf y => ?_
  blk_simp
  rw [after0_7]
  have hy : (y : S128x128.Idx) = ix2 (y 0 : Fin 128) (y 1 : Fin 128) := funext fun a => match a with | ⟨0, _⟩ => rfl | ⟨1, _⟩ => rfl
  refine Eq.trans (congrArg (outsAt0 m c t.val t.isLt).1 hy) (written_apply m c hq hk t (y 0 : Fin 128) (y 1 : Fin 128) _ ?_ ?_)
  · show win0_7.index t 0 * 128 + 1 * (y 0).val = _
    rw [index_7]
    show (32 * (t.val / 96) + t.val % 32) * 128 + 1 * (y 0).val = 128 * (32 * (t.val / 96) + t.val % 32) + (y 0).val
    omega
  · show win0_7.index t 1 * 128 + 1 * (y 1).val = _
    rw [index_7]
    show (t.val / 32 % 3) * 128 + 1 * (y 1).val = 128 * (t.val / 32 % 3) + (y 1).val
    omega

end Cert.KernelIdeal.Sweep
-- ==== Proof.Plain.lean ====
/-
  The reference at an index, at the ideal instance: its heads, its logits, its log weights (a sum over a window reaching
  to the last key), and the normalised output.
-/
module

public import proofs.«01_k».proof.Proof.Stick
public import proofs.«01_k».proof.Proof.Gen.ReferenceIdeal.Read
public import Idealize.ShloMosaic.Lib.WordCmp

@[expose] public section

set_option maxRecDepth 16384

noncomputable section

namespace Cert.ReferenceIdeal.Plain

open Idealize.ShloMosaic Idealize.ShloMosaic.TcCoe Idealize.ShloMosaic.Tactic
open Cert.ReferenceIdeal Cert.ReferenceIdeal.Gen Cert.ReferenceIdeal.Read Cert.Stick

abbrev Gain := (⟨S64, .f32⟩ : BufTy).Contents (Elt Ideal)

/-! ## The heads -/

theorem query_apply (x : Proj) (b : Fin 4) (hd : Fin 6) (s : Fin 4096) (k : Fin 64) :
    val_main_v2 (F := Ideal) x (ix4 b hd s k) = headRow x 0 b hd s k := by
  rw [val_main_v2_apply, val_main_v1_apply, val_main_v0_apply]
  have hb := b.isLt; have hh := hd.isLt; have hs := s.isLt; have hk := k.isLt
  refine congrArg x (funext fun a => Fin.ext ?_)
  match a with
  | ⟨0, _⟩ => show (((b.val * 4096 + s.val) * 6 + hd.val) * 64 + k.val) / 384 = 4096 * b.val + s.val; omega
  | ⟨1, _⟩ => show 3584 + (((b.val * 4096 + s.val) * 6 + hd.val) * 64 + k.val) % 384 = 3584 + 384 * 0 + 64 * hd.val + k.val; omega

theorem key_apply (x : Proj) (b : Fin 4) (hd : Fin 6) (s : Fin 4096) (k : Fin 64) :
    val_main_v18 (F := Ideal) x (ix4 b hd s k) = headRow x 1 b hd s k := by
  rw [val_main_v18_apply, val_main_v17_apply, val_main_v16_apply]
  have hb := b.isLt; have hh := hd.isLt; have hs := s.isLt; have hk := k.isLt
  refine congrArg x (funext fun a => Fin.ext ?_)
  match a with
  | ⟨0, _⟩ => show (((b.val * 4096 + s.val) * 6 + hd.val) * 64 + k.val) / 384 = 4096 * b.val + s.val; omega
  | ⟨1, _⟩ => show 3968 + (((b.val * 4096 + s.val) * 6 + hd.val) * 64 + k.val) % 384 = 3584 + 384 * 1 + 64 * hd.val + k.val; omega

theorem value_apply (x : Proj) (b : Fin 4) (hd : Fin 6) (s : Fin 4096) (k : Fin 64) :
    val_main_v34 (F := Ideal) x (ix4 b hd s k) = headRow x 2 b hd s k := by
  rw [val_main_v34_apply, val_main_v33_apply, val_main_v32_apply]
  have hb := b.isLt; have hh := hd.isLt; have hs := s.isLt; have hk := k.isLt
  refine congrArg x (funext fun a => Fin.ext ?_)
  match a with
  | ⟨0, _⟩ => show (((b.val * 4096 + s.val) * 6 + hd.val) * 64 + k.val) / 384 = 4096 * b.val + s.val; omega
  | ⟨1, _⟩ => show 4352 + (((b.val * 4096 + s.val) * 6 + hd.val) * 64 + k.val) % 384 = 3584 + 384 * 2 + 64 * hd.val + k.val; omega

theorem sum_at (y : S4x6x4096x64.Idx → EReal) (c : EReal) (row : Fin 64 → EReal) (b : Fin 4) (hd : Fin 6) (s : Fin 4096)
    (h : ∀ k, y (ix4 b hd s k) = row k) (i : S4x6x4096.Idx) (hi : i = ix3 b hd s) :
    c + ∑ k : Fin 64, y (idx_main_v4 i k) = c + ∑ k, row k := by
  subst hi
  refine congrArg (c + ·) (Finset.sum_congr rfl fun k _ => (congrArg y ?_).trans (h k))
  exact funext fun a => Fin.ext (by match a with | ⟨0, _⟩ => rfl | ⟨1, _⟩ => rfl | ⟨2, _⟩ => rfl | ⟨3, _⟩ => rfl)

theorem query_norm (x : Proj) (g : Gain) (b : Fin 4) (hd : Fin 6) (s : Fin 4096) (k : Fin 64) :
    val_main_v15 (F := Ideal) x g (ix4 b hd s k) = rms (headRow x 0 b hd s) k * g (ix1 k) := by
  rw [val_main_v15_apply, val_main_v14_apply, val_main_v13_apply, val_main_v12_apply, val_main_v11_apply, val_main_v10_apply, val_main_v9_apply,
    val_main_v8_apply, val_main_v7_apply, val_main_v6_apply, val_main_v5_apply, val_main_v4_apply, query_apply]
  rw [sum_at (val_main_v3 (F := Ideal) x) _ (fun j => headRow x 0 b hd s j * headRow x 0 b hd s j) b hd s
    (fun j => by rw [val_main_v3_apply, query_apply]; rfl) _ (funext fun a => Fin.ext (by match a with | ⟨0, _⟩ => rfl | ⟨1, _⟩ => rfl | ⟨2, _⟩ => rfl))]
  refine congrArg₂ (· * ·) (congrArg₂ (· * ·) rfl (congrArg Ideal.rsqrt (congrArg (· + eps) (mean_eq _)))) (congrArg g ?_)
  exact funext fun a => Fin.ext (by match a with | ⟨0, _⟩ => rfl)

theorem key_norm (x : Proj) (g : Gain) (b : Fin 4) (hd : Fin 6) (s : Fin 4096) (k : Fin 64) :
    val_main_v31 (F := Ideal) x g (ix4 b hd s k) = rms (headRow x 1 b hd s) k * g (ix1 k) := by
  rw [val_main_v31_apply, val_main_v30_apply, val_main_v29_apply, val_main_v28_apply, val_main_v27_apply, val_main_v26_apply, val_main_v25_apply,
    val_main_v24_apply, val_main_v23_apply, val_main_v22_apply, val_main_v21_apply, val_main_v20_apply, key_apply]
  rw [sum_at (val_main_v19 (F := Ideal) x) _ (fun j => headRow x 1 b hd s j * headRow x 1 b hd s j) b hd s
    (fun j => by rw [val_main_v19_apply, key_apply]; rfl) _ (funext fun a => Fin.ext (by match a with | ⟨0, _⟩ => rfl | ⟨1, _⟩ => rfl | ⟨2, _⟩ => rfl))]
  refine congrArg₂ (· * ·) (congrArg₂ (· * ·) rfl (congrArg Ideal.rsqrt (congrArg (· + eps) (mean_eq _)))) (congrArg g ?_)
  exact funext fun a => Fin.ext (by match a with | ⟨0, _⟩ => rfl)

theorem out_norm (x : Proj) (gq gk g : Gain) (b : Fin 4) (hd : Fin 6) (t : Fin 4096) (i : Fin 64) :
    val_main_v66 (F := Ideal) x gq gk g (ix4 b hd t i) = rms (fun k => val_main_v53 (F := Ideal) x gq gk (ix4 b hd t k)) i * g (ix1 i) := by
  rw [val_main_v66_apply, val_main_v65_apply, val_main_v64_apply, val_main_v63_apply, val_main_v62_apply, val_main_v61_apply, val_main_v60_apply,
    val_main_v59_apply, val_main_v58_apply, val_main_v57_apply, val_main_v56_apply, val_main_v55_apply]
  rw [sum_at (val_main_v54 (F := Ideal) x gq gk) _ (fun j => val_main_v53 (F := Ideal) x gq gk (ix4 b hd t j) * val_main_v53 (F := Ideal) x gq gk (ix4 b hd t j)) b hd t
    (fun j => rfl) _ (funext fun a => Fin.ext (by match a with | ⟨0, _⟩ => rfl | ⟨1, _⟩ => rfl | ⟨2, _⟩ => rfl))]
  refine congrArg₂ (· * ·) (congrArg₂ (· * ·) rfl (congrArg Ideal.rsqrt (congrArg (· + eps) (mean_eq _)))) (congrArg g ?_)
  exact funext fun a => Fin.ext (by match a with | ⟨0, _⟩ => rfl)

/-! ## The logits and their log sigmoids -/

theorem logit_apply (x : Proj) (gq gk : Gain) (b : Fin 4) (hd : Fin 6) (t s : Fin 4096) :
    val_main_v37 (F := Ideal) x gq gk (ix4 b hd t s)
      = (∑ i, rms (headRow x 0 b hd t) i * gq (ix1 i) * (rms (headRow x 1 b hd s) i * gk (ix1 i))) * ((1 / 8 : ℝ) : EReal) := by
  rw [val_main_v37_apply, val_main_v36_apply, val_main_v35_apply, ← word_eighth]
  refine congrArg₂ (· * ·) (Finset.sum_congr rfl fun i _ => congrArg₂ (· * ·) ?_ ?_) rfl
  · refine Eq.trans (congrArg (val_main_v15 (F := Ideal) x gq) ?_) (query_norm x gq b hd t i)
    exact funext fun a => Fin.ext (by match a with | ⟨0, _⟩ => rfl | ⟨1, _⟩ => rfl | ⟨2, _⟩ => rfl | ⟨3, _⟩ => rfl)
  · refine Eq.trans (congrArg (val_main_v31 (F := Ideal) x gk) ?_) (key_norm x gk b hd s i)
    exact funext fun a => Fin.ext (by match a with | ⟨0, _⟩ => rfl | ⟨1, _⟩ => rfl | ⟨2, _⟩ => rfl | ⟨3, _⟩ => rfl)

theorem word_zero : Ideal.ofBits .f32 0x00000000#32 = 0 := Ideal.ofBits_zero_f32

theorem sub_zero_word (z : ℝ) : (z : EReal) - Ideal.ofBits .f32 0x00000000#32 = (z : EReal) := by rw [word_zero, sub_zero]

theorem keep_apply (x : Proj) (gq gk : Gain) (i : S4x6x4096x4096.Idx) (z : ℝ) (hz : val_main_v37 (F := Ideal) x gq gk i = (z : EReal)) :
    val_main_v45 (F := Ideal) x gq gk i = ((-softplus z : ℝ) : EReal) := by
  have h1 : val_main_call0_v0 (F := Ideal) x gq gk i = (z : EReal) := by
    rw [val_main_call0_v0_apply, val_main_v44_apply, hz]
    show -(-(z : EReal)) = _
    rw [neg_neg]
  have h3 : val_main_call0_call0_v3 (F := Ideal) x gq gk i = (z : EReal) := by
    rw [val_main_call0_call0_v3_apply, val_main_call0_call0_v2_apply, h1]
    exact sub_zero_word z
  rw [val_main_v45_apply, val_main_call0_v1_apply, EReal.coe_neg]
  exact congrArg (- ·) (softplus_reference _ _ _ _ z h1 ((val_main_call0_call0_v0_apply i).trans word_zero) h3)

theorem take_apply (x : Proj) (gq gk : Gain) (i : S4x6x4096x4096.Idx) (z : ℝ) (hz : val_main_v37 (F := Ideal) x gq gk i = (z : EReal)) :
    val_main_v49 (F := Ideal) x gq gk i = ((z - softplus z : ℝ) : EReal) := by
  have h1 : val_main_call3_v0 (F := Ideal) x gq gk i = ((-z : ℝ) : EReal) := by
    rw [val_main_call3_v0_apply, hz]
    rfl
  have h3 : val_main_call3_call0_v3 (F := Ideal) x gq gk i = ((-z : ℝ) : EReal) := by
    rw [val_main_call3_call0_v3_apply, val_main_call3_call0_v2_apply, h1]
    exact sub_zero_word (-z)
  rw [val_main_v49_apply, val_main_call3_v1_apply, ← neg_sub, ← softplus_neg, EReal.coe_neg]
  exact congrArg (- ·) (softplus_reference _ _ _ _ (-z) h1 ((val_main_call3_call0_v0_apply i).trans word_zero) h3)

/-! ## The mask -/

theorem select_mask (t s : Fin 4096) (a b : EReal) :
    Scalar.select (IntOp.cmpi .slt (BitVec.ofNat 32 s.val) (BitVec.ofNat 32 t.val)) a b = if s.val < t.val then a else b := by
  have hs := s.isLt; have ht := t.isLt
  rw [WordCmp.cmpi_slt_ofNat (by omega) (by omega)]
  by_cases h : s.val < t.val
  · rw [decide_eq_true h, if_pos h]; rfl
  · rw [decide_eq_false h, if_neg h]; rfl

theorem masked_keep (x : Proj) (gq gk : Gain) (b : Fin 4) (hd : Fin 6) (t : Fin 4096) (z : ℕ → ℝ)
    (hz : ∀ s : Fin 4096, val_main_v37 (F := Ideal) x gq gk (ix4 b hd t s) = (z s.val : EReal)) (s : Fin 4096) :
    val_main_v46 (F := Ideal) x gq gk (ix4 b hd t s) = ((-seen t.val z s.val : ℝ) : EReal) := by
  rw [val_main_v46_apply, val_main_call1_v1_apply, val_main_v43_apply, val_main_v41_apply, val_main_v42_apply, val_main_v39_apply, val_main_v40_apply,
    val_main_v38_apply, val_main_v38_apply, keep_apply x gq gk _ _ (hz s)]
  refine (select_mask t s _ _).trans ?_
  unfold seen
  by_cases h : s.val < t.val
  · rw [if_pos h, if_pos h]
  · rw [if_neg h, if_neg h, neg_zero, val_main_call1_v2_apply]
    exact word_zero

/-! ## The sum to the right -/

theorem foldl_sum {α : Type} (l : List α) (g : α → EReal) (v : EReal) : l.foldl (fun r n => r + g n) v = v + (l.map g).sum := by
  induction l generalizing v with
  | nil => simp
  | cons a l ih => rw [List.foldl_cons, ih, List.map_cons, List.sum_cons, add_assoc]

abbrev Win : Shape := ⟨4, ![1, 1, 1, 4096]⟩

theorem rest_sum (x : S4x6x4096x4096.Idx → EReal) (f : ℕ → EReal) (b : Fin 4) (hd : Fin 6) (t : Fin 4096)
    (hx : ∀ s : Fin 4096, x (ix4 b hd t s) = f s.val) (c : S_.Idx → EReal) (hc : ∀ i, c i = 0) (s : Fin 4096) :
    Host.reduceWindowAdd (F := Ideal) (φ := .f32) ![1, 1, 1, 4096] ![1, 1, 1, 1] ![0, 0, 0, 0] ![0, 0, 0, 4095] x c
      reduceWindows_S4x6x4096x4096_S4x6x4096x4096_w1s1p0_0_w1s1p0_0_w1s1p0_0_w4096s1p0_4095 h_S_ (ix4 b hd t s) = ∑ j ∈ Finset.Ico s.val 4096, f j := by
  have hs := s.isLt
  let G : Win.Idx → EReal := fun w => if s.val + (w 3).val < 4096 then f (s.val + (w 3).val) else 0
  unfold Host.reduceWindowAdd
  rw [Ideal.hostReduceWindowAdd_def]
  unfold Ideal.hostReduceWindowAdd Host.reduceWindow
  refine (foldl_sum (List.finRange Win.numel) _ _).trans ?_
  rw [hc, zero_add, ← Fin.sum_univ_def]
  refine Eq.trans (Finset.sum_congr rfl fun n _ => (?_ : _ = G (Win.rowMajor.symm n))) ?_
  · let w : Win.Idx := Win.rowMajor.symm n
    have w0 : (w 0).val < 1 := (w 0).isLt
    have w1 : (w 1).val < 1 := (w 1).isLt
    have w2 : (w 2).val < 1 := (w 2).isLt
    have w3 : (w 3).val < 4096 := (w 3).isLt
    have hb := b.isLt; have hh := hd.isLt; have ht := t.isLt
    by_cases h : s.val + (w 3).val < 4096
    · refine (dif_pos (fun a => ?_)).trans (((congrArg x (funext fun a => Fin.ext ?_)).trans (hx ⟨s.val + (w 3).val, h⟩)).trans (if_pos h).symm)
      · match a with
        | ⟨0, _⟩ => show 0 ≤ b.val * 1 + (w 0).val ∧ b.val * 1 + (w 0).val - 0 < 4; omega
        | ⟨1, _⟩ => show 0 ≤ hd.val * 1 + (w 1).val ∧ hd.val * 1 + (w 1).val - 0 < 6; omega
        | ⟨2, _⟩ => show 0 ≤ t.val * 1 + (w 2).val ∧ t.val * 1 + (w 2).val - 0 < 4096; omega
        | ⟨3, _⟩ => show 0 ≤ s.val * 1 + (w 3).val ∧ s.val * 1 + (w 3).val - 0 < 4096; omega
      · match a with
        | ⟨0, _⟩ => show b.val * 1 + (w 0).val - 0 = b.val; omega
        | ⟨1, _⟩ => show hd.val * 1 + (w 1).val - 0 = hd.val; omega
        | ⟨2, _⟩ => show t.val * 1 + (w 2).val - 0 = t.val; omega
        | ⟨3, _⟩ => show s.val * 1 + (w 3).val - 0 = s.val + (w 3).val; omega
    · refine (dif_neg (fun hin => h ?_)).trans (if_neg h).symm
      have h3 := (hin 3).2
      change s.val * 1 + (w 3).val - 0 < 4096 at h3
      omega
  · rw [Equiv.sum_comp Win.rowMajor.symm G, sum_idx4]
    rw [Fin.sum_univ_one, Fin.sum_univ_one, Fin.sum_univ_one]
    show ∑ d : Fin 4096, (if s.val + d.val < 4096 then f (s.val + d.val) else 0) = _
    rw [Fin.sum_univ_eq_sum_range (fun d => if s.val + d < 4096 then f (s.val + d) else 0) 4096, Finset.sum_Ico_eq_sum_range,
      ← Finset.sum_range_add_sum_Ico _ (show 4096 - s.val ≤ 4096 by omega)]
    rw [Finset.sum_eq_zero (s := Finset.Ico (4096 - s.val) 4096) fun d hd => if_neg (by have := (Finset.mem_Ico.mp hd).1; omega), add_zero]
    exact Finset.sum_congr rfl fun d hd => if_pos (by have := Finset.mem_range.mp hd; omega)

/-! ## The weights -/

theorem weight_apply (x : Proj) (gq gk : Gain) (b : Fin 4) (hd : Fin 6) (t : Fin 4096) (z : ℕ → ℝ)
    (hz : ∀ s : Fin 4096, val_main_v37 (F := Ideal) x gq gk (ix4 b hd t s) = (z s.val : EReal)) (s : Fin 4096) :
    val_main_v52 (F := Ideal) x gq gk (ix4 b hd t s) = (weight t.val z s.val : EReal) := by
  have hs := s.isLt
  have h47 : val_main_v47 (F := Ideal) x gq gk (ix4 b hd t s) = ((-tail t.val z s.val : ℝ) : EReal) := by
    refine (rest_sum (val_main_v46 (F := Ideal) x gq gk) (fun j => ((-seen t.val z j : ℝ) : EReal)) b hd t (masked_keep x gq gk b hd t z hz) _
      (fun i => (val_main_call2_v0_apply i).trans ((val_main_call2_cst_apply _).trans word_zero)) s).trans ?_
    rw [coe_sum, Finset.sum_neg_distrib]
    rfl
  have h48 : val_main_v48 (F := Ideal) x gq gk (ix4 b hd t s) = ((-tail t.val z (s.val + 1) : ℝ) : EReal) := by
    rw [val_main_v48_apply, h47, masked_keep x gq gk b hd t z hz s]
    show ((-tail t.val z s.val : ℝ) : EReal) - _ = _
    rw [← EReal.coe_sub, tail_split t.val z (Nat.le_succ s.val) hs, Nat.succ_eq_add_one, Nat.Ico_succ_singleton, Finset.sum_singleton]
    exact congrArg _ (by ring)
  rw [val_main_v52_apply, val_main_v51_apply, val_main_call4_v1_apply, val_main_v43_apply, val_main_v41_apply, val_main_v42_apply, val_main_v39_apply,
    val_main_v40_apply, val_main_v38_apply, val_main_v38_apply, val_main_v50_apply, take_apply x gq gk _ _ (hz s), h48]
  refine (congrArg Ideal.exp (select_mask t s _ _)).trans ?_
  unfold weight
  by_cases h : s.val < t.val
  · rw [if_pos h, if_pos h]
    show Ideal.exp (((z s.val - softplus (z s.val) : ℝ) : EReal) + _) = _
    rw [← EReal.coe_add, seen, if_pos h]
    rfl
  · rw [if_neg h, if_neg h, val_main_call4_v2_apply]
    exact (congrArg Ideal.exp word_bot).trans rfl

/-! ## The output -/

theorem result_apply (x : Proj) (gq gk g : Gain) (b : Fin 4) (hd : Fin 6) (t : Fin 4096) (z : ℕ → ℝ)
    (hz : ∀ s : Fin 4096, val_main_v37 (F := Ideal) x gq gk (ix4 b hd t s) = (z s.val : EReal)) (i : Fin 64) :
    val_main_v69 (F := Ideal) x gq gk g (ix2 ⟨4096 * b.val + t.val, by have := b.isLt; have := t.isLt; omega⟩ ⟨64 * hd.val + i.val, by have := hd.isLt; have := i.isLt; omega⟩)
      = result x (fun k => g (ix1 k)) z b hd t i := by
  have hb := b.isLt; have hh := hd.isLt; have ht := t.isLt; have hi := i.isLt
  rw [val_main_v69_apply, val_main_v68_apply, val_main_v67_apply]
  refine Eq.trans (congrArg (val_main_v66 (F := Ideal) x gq gk g) (?_ : _ = ix4 b hd t i)) ?_
  · refine funext fun a => Fin.ext ?_
    match a with
    | ⟨0, _⟩ => show ((4096 * b.val + t.val) * 384 + (64 * hd.val + i.val)) / 1572864 = b.val; omega
    | ⟨1, _⟩ => show ((4096 * b.val + t.val) * 384 + (64 * hd.val + i.val)) / 64 % 6 = hd.val; omega
    | ⟨2, _⟩ => show ((4096 * b.val + t.val) * 384 + (64 * hd.val + i.val)) / 384 % 4096 = t.val; omega
    | ⟨3, _⟩ => show ((4096 * b.val + t.val) * 384 + (64 * hd.val + i.val)) % 64 = i.val; omega
  · rw [out_norm]
    refine congrArg (fun f => rms f i * g (ix1 i)) (funext fun k => ?_)
    rw [val_main_v53_apply, attend_eq]
    refine Finset.sum_congr rfl fun s _ => congrArg₂ (· * ·) ?_ ?_
    · refine Eq.trans (congrArg (val_main_v52 (F := Ideal) x gq gk) ?_) (weight_apply x gq gk b hd t z hz s)
      exact funext fun a => Fin.ext (by match a with | ⟨0, _⟩ => rfl | ⟨1, _⟩ => rfl | ⟨2, _⟩ => rfl | ⟨3, _⟩ => rfl)
    · rw [valueColumn, dif_pos s.isLt]
      refine Eq.trans (congrArg (val_main_v34 (F := Ideal) x) ?_) (value_apply x b hd s k)
      exact funext fun a => Fin.ext (by match a with | ⟨0, _⟩ => rfl | ⟨1, _⟩ => rfl | ⟨2, _⟩ => rfl | ⟨3, _⟩ => rfl)

/-- With real gains the reference is the attention. -/
theorem reference_eq (x : Proj) (gq gk g : Gain) (hq : ∀ i, ∃ r : ℝ, gq (ix1 i) = (r : EReal)) (hk : ∀ i, ∃ r : ℝ, gk (ix1 i) = (r : EReal)) :
    val_main_v69 (F := Ideal) x gq gk g = attention x (fun k => gq (ix1 k)) (fun k => gk (ix1 k)) (fun k => g (ix1 k)) := by
  funext i
  have h0 : (i 0).val < 16384 := (i 0).isLt
  have h1 : (i 1).val < 384 := (i 1).isLt
  have e := result_apply x gq gk g ⟨(i 0).val / 4096, by omega⟩ ⟨(i 1).val / 64, by omega⟩ ⟨(i 0).val % 4096, by omega⟩
    (logits x (fun k => gq (ix1 k)) (fun k => gk (ix1 k)) ⟨(i 0).val / 4096, by omega⟩ ⟨(i 1).val / 64, by omega⟩ ⟨(i 0).val % 4096, by omega⟩)
    (fun s => (logit_apply x gq gk _ _ _ s).trans (logits_real x _ _ hq hk _ _ _ s).2) ⟨(i 1).val % 64, by omega⟩
  refine Eq.trans (congrArg _ (funext fun a => Fin.ext ?_)) e
  match a with
  | ⟨0, _⟩ => show (i 0).val = 4096 * ((i 0).val / 4096) + (i 0).val % 4096; omega
  | ⟨1, _⟩ => show (i 1).val = 64 * ((i 1).val / 64) + (i 1).val % 64; omega

end Cert.ReferenceIdeal.Plain
-- ==== Proof.Gains.lean ====
/-
  The precondition on the gains: every element of the query and the key gain is real.
-/
module

public import proofs.«01_k».proof.Pre_gains_finite
public import Idealize.ShloMosaic.Lib.ReduceAll
public import Idealize.ShloMosaic.PureOps.Ideal

@[expose] public section

noncomputable section

namespace Cert.Gains

open Idealize.ShloMosaic

/-- The predicate's own side conditions. -/
theorem facts : Cert.Pre_gains_finite.Facts where
  bcast_S_S64 := by decide
  reducesTo_S64_S_d0 := by decide
  h_S_ := by decide

theorem real_of_below {x : EReal} (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => exact absurd h (by simp [Ideal.cmp])
  | coe r => exact ⟨r, rfl⟩
  | top => exact absurd h (by simp [Ideal.cmp])

theorem gains_real [Cert.Pre_gains_finite.Facts] (a0 : FVec Ideal Cert.Pre_gains_finite.S16384x4864 .f32) (a1 a2 a3 : FVec Ideal Cert.Pre_gains_finite.S64 .f32)
    (h : Cert.Pre_gains_finite.fn (F := Ideal) a0 a1 a2 a3 = fun _ => 1#1) :
    (∀ i, ∃ r : ℝ, a1 i = (r : EReal)) ∧ (∀ i, ∃ r : ℝ, a2 i = (r : EReal)) := by
  haveI : Subsingleton Cert.Pre_gains_finite.S_.Idx := ⟨fun x y => funext fun a => a.elim0⟩
  have e := congrFun h (fun a => a.elim0)
  dsimp only [Cert.Pre_gains_finite.fn] at e
  have he : ∀ u v : BitVec 1, u &&& v = 1#1 → u = 1#1 ∧ v = 1#1 := by decide
  obtain ⟨e1, e2⟩ := he _ _ e
  exact ⟨fun i => real_of_below (Host.reduce_andi_all _ _ _ _ _ e1 i), fun i => real_of_below (Host.reduce_andi_all _ _ _ _ _ e2 i)⟩

end Cert.Gains
-- ==== Proof.Calls.lean ====
/-
  What the projections and the channel mixer compute, as plain sums over the calls' arrays.
-/
module

public import Idealize.ShloMosaic.Lib.IdealHost
public import Idealize.ShloMosaic.Lib.Pipeline.ValueKit
public import Idealize.ShloMosaic.Lib.Tactic

@[expose] public section

set_option maxRecDepth 16384

noncomputable section

namespace Cert.Calls

open Idealize.ShloMosaic Idealize.ShloMosaic.TcCoe Idealize.ShloMosaic.Tactic Idealize.SL.Sem

/-- A matrix of `a` rows and `b` columns, over the extended reals. -/
abbrev Mat (a b : ℕ) : Type := (⟨2, ![a, b]⟩ : Shape).Idx → EReal

/-- The words of 1024 and of the norm's small addend. -/
abbrev width : EReal := Ideal.ofBits .f32 0x44800000#32
abbrev eps : EReal := Ideal.ofBits .f32 0x358637BD#32

/-- Row `r` of the root mean square norm with gain `g`, at `k`. -/
def normed {a : ℕ} (x : Mat a 1024) (g : (⟨1, ![1024]⟩ : Shape).Idx → EReal) (r : Fin a) (k : Fin 1024) : EReal :=
  x (ix2 r k) * Ideal.rsqrt (Ideal.div (∑ j, x (ix2 r j) * x (ix2 r j)) width + eps) * g (ix1 k)

/-- The norm's rows against the weights' columns. -/
def projected {a b : ℕ} (x : Mat a 1024) (g : (⟨1, ![1024]⟩ : Shape).Idx → EReal) (w : Mat 1024 b) : Mat a b :=
  fun i => ∑ k, normed x g (i 0) k * w (ix2 k (i 1))

/-- `x` and the product of `y` with the weights. -/
def added {a n b : ℕ} (x : Mat a b) (y : Mat a n) (w : Mat n b) : Mat a b :=
  fun i => x i + ∑ k, y (ix2 (i 0) k) * w (ix2 k (i 1))

/-- The gate's silu times the up projection, the gate in the weights' first half and the up projection in the second. -/
def gated {a : ℕ} (x : Mat a 1024) (g : (⟨1, ![1024]⟩ : Shape).Idx → EReal) (w : Mat 1024 5632) : Mat a 2816 :=
  fun i =>
    let gate := projected x g w (ix2 (i 0) ⟨(i 1).val, lt_trans (i 1).isLt (show (2816 : ℕ) < 5632 by decide)⟩)
    let up := projected x g w (ix2 (i 0) ⟨2816 + (i 1).val, Nat.add_lt_add_left (i 1).isLt 2816⟩)
    gate * Ideal.div 1 (1 + Ideal.exp (-gate)) * up

/-- `x` and the products of three arrays, each with its own weights. -/
def gathered {a b n₁ n₂ n₃ : ℕ} (x : Mat a b) (y₁ : Mat a n₁) (y₂ : Mat a n₂) (y₃ : Mat a n₃) (w₁ : Mat n₁ b) (w₂ : Mat n₂ b) (w₃ : Mat n₃ b) : Mat a b :=
  fun i => x i + (∑ k, y₁ (ix2 (i 0) k) * w₁ (ix2 k (i 1))) + (∑ k, y₂ (ix2 (i 0) k) * w₂ (ix2 k (i 1))) + ∑ k, y₃ (ix2 (i 0) k) * w₃ (ix2 k (i 1))

theorem exp_nonneg (x : EReal) : 0 ≤ Ideal.exp x := by
  induction x with
  | bot => exact le_refl _
  | top => exact le_top
  | coe r => exact EReal.coe_nonneg.mpr (Real.exp_pos r).le

/-- Dividing by one plus the exponential is multiplying by its inverse, at every extended real. -/
theorem silu_eq (z : EReal) : Ideal.div z (1 + Ideal.exp (0 - z)) = z * Ideal.div 1 (1 + Ideal.exp (-z)) := by
  have h : (1 + Ideal.exp (-z) : EReal) ≠ 0 := (lt_of_lt_of_le zero_lt_one (le_add_of_nonneg_right (exp_nonneg _))).ne'
  rw [zero_sub]
  unfold Ideal.div
  rw [if_neg h, if_neg h, one_mul]

end Cert.Calls
-- ==== Proof.Down.lean ====
/-
  The channel mixer's second projection: what the kernel leaves and what the plain reference computes.
-/
module

public import proofs.«01_k».proof.Proof.Calls
public import proofs.«01_k».proof.Proof.Gen.FfnDownIdeal.Value
public import proofs.«01_k».proof.Proof.Gen.FfnDownReferenceIdeal.Read

@[expose] public section

set_option maxRecDepth 16384

noncomputable section

namespace Cert.FfnDownIdeal.Down

open Idealize.ShloMosaic Idealize.ShloMosaic.TcCoe Idealize.ShloMosaic.Tactic Idealize.SL.Sem
open Cert.FfnDownIdeal Cert.FfnDownIdeal.Gen Cert.FfnDownIdeal.Value Cert.Calls

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![t.val, 0] := (by decide +kernel : ∀ t : Fin grid0.N, _)

theorem out_eq (x0 : Vec Ideal S512x1024 .f32) (x1 : Vec Ideal S512x2816 .bf16) (x2 : Vec Ideal S2816x1024 .bf16) :
    out0_3 x0 x1 x2 = k0_pay1 x0 x1 x2 := by
  unfold out0_3
  rw [View.canon_cons_unit_lit _ _ _ (by decide), View.ld_unit_lit _ _ (by decide), View.ld_unit_lit _ _ (by decide), View.ld_unit_lit _ _ (by decide)]

theorem pay_apply (x0 : Vec Ideal S512x1024 .f32) (x1 : Vec Ideal S512x2816 .bf16) (x2 : Vec Ideal S2816x1024 .bf16) (r : Fin 512) (l : Fin 1024) :
    k0_pay1 x0 x1 x2 (ix2 r l) = x0 (ix2 r l) + ∑ k, x1 (ix2 r k) * x2 (ix2 k l) := by
  pointwise [k0_pay1]

variable (m : (ℓ : Loc nD τ sig) → Buf (Elt Ideal) ℓ) (c : Dev nD)

theorem x_read (t : Fin cfg0.N) (r : Fin 512) (l : Fin 1024) (i : S16384x1024.Idx) (h0 : (i 0).val = 512 * t.val + r.val) (h1 : (i 1).val = l.val) :
    (iblk m c 0 t : Vec Ideal S512x1024 .f32) (ix2 r l) = m ((c : Thread nD τ).loc main_arg0) i := by
  refine Eq.trans ?_ (congrFun (V_main_arg0 m c) i)
  show V m c main_arg0 ((win0_0.blk t).view.emb (ix2 r l)) = V m c main_arg0 i
  refine congrArg (V m c main_arg0) (funext fun a => Fin.ext ?_)
  match a with
  | ⟨0, _⟩ => show win0_0.index t 0 * 512 + 1 * r.val = (i 0).val; rw [index_0]; show t.val * 512 + 1 * r.val = (i 0).val; omega
  | ⟨1, _⟩ => show win0_0.index t 1 * 1024 + 1 * l.val = (i 1).val; rw [index_0]; show 0 * 1024 + 1 * l.val = (i 1).val; omega

theorem act_read (t : Fin cfg0.N) (r : Fin 512) (l : Fin 2816) (i : S16384x2816.Idx) (h0 : (i 0).val = 512 * t.val + r.val) (h1 : (i 1).val = l.val) :
    (iblk m c 1 t : Vec Ideal S512x2816 .bf16) (ix2 r l) = m ((c : Thread nD τ).loc main_arg1) i := by
  refine Eq.trans ?_ (congrFun (V_main_arg1 m c) i)
  show V m c main_arg1 ((win0_1.blk t).view.emb (ix2 r l)) = V m c main_arg1 i
  refine congrArg (V m c main_arg1) (funext fun a => Fin.ext ?_)
  match a with
  | ⟨0, _⟩ => show win0_1.index t 0 * 512 + 1 * r.val = (i 0).val; rw [index_1]; show t.val * 512 + 1 * r.val = (i 0).val; omega
  | ⟨1, _⟩ => show win0_1.index t 1 * 2816 + 1 * l.val = (i 1).val; rw [index_1]; show 0 * 2816 + 1 * l.val = (i 1).val; omega

theorem weights_entry (i : S2816x1024.Idx) : V m c main_v0 i = m ((c : Thread nD τ).loc main_arg2) i := by
  entry_read
  rfl

theorem weights_read (t : Fin cfg0.N) (k : Fin 2816) (l : Fin 1024) (i : S2816x1024.Idx) (h0 : (i 0).val = k.val) (h1 : (i 1).val = l.val) :
    (iblk m c 2 t : Vec Ideal S2816x1024 .bf16) (ix2 k l) = m ((c : Thread nD τ).loc main_arg2) i := by
  refine Eq.trans ?_ (weights_entry m c i)
  show V m c main_v0 ((win0_2.blk t).view.emb (ix2 k l)) = V m c main_v0 i
  refine congrArg (V m c main_v0) (funext fun a => Fin.ext ?_)
  match a with
  | ⟨0, _⟩ => show win0_2.index t 0 * 2816 + 1 * k.val = (i 0).val; rw [index_2]; show 0 * 2816 + 1 * k.val = (i 0).val; omega
  | ⟨1, _⟩ => show win0_2.index t 1 * 1024 + 1 * l.val = (i 1).val; rw [index_2]; show 0 * 1024 + 1 * l.val = (i 1).val; omega

abbrev G : Mat 16384 1024 :=
  added (m ((c : Thread nD τ).loc main_arg0)) (m ((c : Thread nD τ).loc main_arg1)) (m ((c : Thread nD τ).loc main_arg2))

theorem written_apply (t : Fin cfg0.N) (r : Fin 512) (l : Fin 1024) (i : S16384x1024.Idx) (h0 : (i 0).val = 512 * t.val + r.val) (h1 : (i 1).val = l.val) :
    out0_3 (iblk m c 0 t) (iblk m c 1 t) (iblk m c 2 t) (ix2 r l) = G m c i := by
  refine (congrFun (out_eq (iblk m c 0 t) (iblk m c 1 t) (iblk m c 2 t)) (ix2 r l)).trans ((pay_apply (iblk m c 0 t) (iblk m c 1 t) (iblk m c 2 t) r l).trans ?_)
  refine congrArg₂ (· + ·) (x_read m c t r l i h0 h1) (Finset.sum_congr rfl fun k _ => congrArg₂ (· * ·) ?_ ?_)
  · exact act_read m c t r k (ix2 (i 0) k) h0 rfl
  · exact weights_read m c t k l (ix2 k (i 1)) rfl h1

theorem result_eq : (dats m 0 c).arrAt 3 cfg0.N = G m c := by
  refine (dats m 0 c).arrAt_eq_of_covers 3 _ (by decide +kernel) fun t hf y => ?_
  blk_simp
  rw [after0_3]
  have hy : (y : S512x1024.Idx) = ix2 (y 0 : Fin 512) (y 1 : Fin 1024) := funext fun a => match a with | ⟨0, _⟩ => rfl | ⟨1, _⟩ => rfl
  refine Eq.trans (congrArg (out0_3 (iblk m c 0 t) (iblk m c 1 t) (iblk m c 2 t)) hy) (written_apply m c t (y 0 : Fin 512) (y 1 : Fin 1024) _ ?_ ?_)
  · show win0_3.index t 0 * 512 + 1 * (y 0).val = _
    rw [index_3]
    show t.val * 512 + 1 * (y 0).val = 512 * t.val + (y 0).val
    omega
  · show win0_3.index t 1 * 1024 + 1 * (y 1).val = _
    rw [index_3]
    show 0 * 1024 + 1 * (y 1).val = (y 1).val
    omega

end Cert.FfnDownIdeal.Down

namespace Cert.FfnDownReferenceIdeal.Down

open Idealize.ShloMosaic Idealize.ShloMosaic.TcCoe Idealize.ShloMosaic.Tactic Idealize.SL.Sem
open Cert.FfnDownReferenceIdeal Cert.FfnDownReferenceIdeal.Gen Cert.FfnDownReferenceIdeal.Read Cert.Calls

theorem reference_eq (x : Mat 16384 1024) (y : Mat 16384 2816) (w : Mat 2816 1024) : val_main_v2 (F := Ideal) x y w = added x y w := by
  funext i
  rw [val_main_v2_apply, val_main_v1_apply]
  refine congrArg (x i + ·) (Finset.sum_congr rfl fun k _ => congrArg₂ (· * ·) (congrArg y ?_) (congrArg w ?_))
  · exact funext fun a => match a with | ⟨0, _⟩ => rfl | ⟨1, _⟩ => rfl
  · exact funext fun a => match a with | ⟨0, _⟩ => rfl | ⟨1, _⟩ => rfl

end Cert.FfnDownReferenceIdeal.Down
-- ==== Proof.Gather.lean ====
/-
  The output projection with its residual: what the kernel leaves and what the plain reference computes.
-/
module

public import proofs.«01_k».proof.Proof.Calls
public import proofs.«01_k».proof.Proof.Gen.OutputIdeal.Value
public import proofs.«01_k».proof.Proof.Gen.OutputReferenceIdeal.Read

@[expose] public section

set_option maxRecDepth 16384

noncomputable section

namespace Cert.OutputIdeal.Gather

open Idealize.ShloMosaic Idealize.ShloMosaic.TcCoe Idealize.ShloMosaic.Tactic Idealize.SL.Sem
open Cert.OutputIdeal Cert.OutputIdeal.Gen Cert.OutputIdeal.Value Cert.Calls

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![t.val, 0] := (by decide +kernel : ∀ t : Fin grid0.N, _)

theorem out_eq (x0 : Vec Ideal S1024x1024 .f32) (x1 : Vec Ideal S1024x512 .bf16) (x2 : Vec Ideal S1024x384 .bf16) (x3 : Vec Ideal S1024x512 .bf16) (x4 : Vec Ideal S512x1024 .bf16) (x5 : Vec Ideal S384x1024 .bf16) (x6 : Vec Ideal S512x1024 .bf16) :
    out0_7 x0 x1 x2 x3 x4 x5 x6 = k0_pay1 x0 x1 x4 x2 x5 x3 x6 := by
  unfold out0_7
  rw [View.canon_cons_unit_lit _ _ _ (by decide), View.ld_unit_lit _ x0 (by decide), View.ld_unit_lit _ x1 (by decide), View.ld_unit_lit _ x2 (by decide),
    View.ld_unit_lit _ x3 (by decide), View.ld_unit_lit _ x4 (by decide), View.ld_unit_lit _ x5 (by decide), View.ld_unit_lit _ x6 (by decide)]

theorem pay_apply (x0 : Vec Ideal S1024x1024 .f32) (x1 : Vec Ideal S1024x512 .bf16) (x2 : Vec Ideal S1024x384 .bf16) (x3 : Vec Ideal S1024x512 .bf16) (x4 : Vec Ideal S512x1024 .bf16) (x5 : Vec Ideal S384x1024 .bf16) (x6 : Vec Ideal S512x1024 .bf16) (r l : Fin 1024) :
    k0_pay1 x0 x1 x4 x2 x5 x3 x6 (ix2 r l)
      = x0 (ix2 r l) + (∑ k, x1 (ix2 r k) * x4 (ix2 k l)) + (∑ k, x2 (ix2 r k) * x5 (ix2 k l)) + ∑ k, x3 (ix2 r k) * x6 (ix2 k l) := by
  pointwise [k0_pay1]

variable (m : (ℓ : Loc nD τ sig) → Buf (Elt Ideal) ℓ) (c : Dev nD)

theorem x_read (t : Fin cfg0.N) (r : Fin 1024) (l : Fin 1024) (i : S16384x1024.Idx) (h0 : (i 0).val = 1024 * t.val + r.val) (h1 : (i 1).val = l.val) :
    (iblk m c 0 t : Vec Ideal S1024x1024 .f32) (ix2 r l) = m ((c : Thread nD τ).loc main_arg0) i := by
  refine Eq.trans ?_ (congrFun (V_main_arg0 m c) i)
  show V m c main_arg0 ((win0_0.blk t).view.emb (ix2 r l)) = V m c main_arg0 i
  refine congrArg (V m c main_arg0) (funext fun a => Fin.ext ?_)
  match a with
  | ⟨0, _⟩ => show win0_0.index t 0 * 1024 + 1 * r.val = (i 0).val; rw [index_0]; show (t.val) * 1024 + 1 * r.val = (i 0).val; omega
  | ⟨1, _⟩ => show win0_0.index t 1 * 1024 + 1 * l.val = (i 1).val; rw [index_0]; show (0) * 1024 + 1 * l.val = (i 1).val; omega

theorem o_a_read (t : Fin cfg0.N) (r : Fin 1024) (l : Fin 512) (i : S16384x512.Idx) (h0 : (i 0).val = 1024 * t.val + r.val) (h1 : (i 1).val = l.val) :
    (iblk m c 1 t : Vec Ideal S1024x512 .bf16) (ix2 r l) = m ((c : Thread nD τ).loc main_arg1) i := by
  refine Eq.trans ?_ (congrFun (V_main_arg1 m c) i)
  show V m c main_arg1 ((win0_1.blk t).view.emb (ix2 r l)) = V m c main_arg1 i
  refine congrArg (V m c main_arg1) (funext fun a => Fin.ext ?_)
  match a with
  | ⟨0, _⟩ => show win0_1.index t 0 * 1024 + 1 * r.val = (i 0).val; rw [index_1]; show (t.val) * 1024 + 1 * r.val = (i 0).val; omega
  | ⟨1, _⟩ => show win0_1.index t 1 * 512 + 1 * l.val = (i 1).val; rw [index_1]; show (0) * 512 + 1 * l.val = (i 1).val; omega

theorem o_b_read (t : Fin cfg0.N) (r : Fin 1024) (l : Fin 384) (i : S16384x384.Idx) (h0 : (i 0).val = 1024 * t.val + r.val) (h1 : (i 1).val = l.val) :
    (iblk m c 2 t : Vec Ideal S1024x384 .bf16) (ix2 r l) = m ((c : Thread nD τ).loc main_arg2) i := by
  refine Eq.trans ?_ (congrFun (V_main_arg2 m c) i)
  show V m c main_arg2 ((win0_2.blk t).view.emb (ix2 r l)) = V m c main_arg2 i
  refine congrArg (V m c main_arg2) (funext fun a => Fin.ext ?_)
  match a with
  | ⟨0, _⟩ => show win0_2.index t 0 * 1024 + 1 * r.val = (i 0).val; rw [index_2]; show (t.val) * 1024 + 1 * r.val = (i 0).val; omega
  | ⟨1, _⟩ => show win0_2.index t 1 * 384 + 1 * l.val = (i 1).val; rw [index_2]; show (0) * 384 + 1 * l.val = (i 1).val; omega

theorem o_c_read (t : Fin cfg0.N) (r : Fin 1024) (l : Fin 512) (i : S16384x512.Idx) (h0 : (i 0).val = 1024 * t.val + r.val) (h1 : (i 1).val = l.val) :
    (iblk m c 3 t : Vec Ideal S1024x512 .bf16) (ix2 r l) = m ((c : Thread nD τ).loc main_arg3) i := by
  refine Eq.trans ?_ (congrFun (V_main_arg3 m c) i)
  show V m c main_arg3 ((win0_3.blk t).view.emb (ix2 r l)) = V m c main_arg3 i
  refine congrArg (V m c main_arg3) (funext fun a => Fin.ext ?_)
  match a with
  | ⟨0, _⟩ => show win0_3.index t 0 * 1024 + 1 * r.val = (i 0).val; rw [index_3]; show (t.val) * 1024 + 1 * r.val = (i 0).val; omega
  | ⟨1, _⟩ => show win0_3.index t 1 * 512 + 1 * l.val = (i 1).val; rw [index_3]; show (0) * 512 + 1 * l.val = (i 1).val; omega

theorem w_a_entry (i : S512x1024.Idx) : V m c main_v0 i = m ((c : Thread nD τ).loc main_arg4) i := by
  entry_read
  rfl

theorem w_a_read (t : Fin cfg0.N) (r : Fin 512) (l : Fin 1024) (i : S512x1024.Idx) (h0 : (i 0).val = r.val) (h1 : (i 1).val = l.val) :
    (iblk m c 4 t : Vec Ideal S512x1024 .bf16) (ix2 r l) = m ((c : Thread nD τ).loc main_arg4) i := by
  refine Eq.trans ?_ (w_a_entry m c i)
  show V m c main_v0 ((win0_4.blk t).view.emb (ix2 r l)) = V m c main_v0 i
  refine congrArg (V m c main_v0) (funext fun a => Fin.ext ?_)
  match a with
  | ⟨0, _⟩ => show win0_4.index t 0 * 512 + 1 * r.val = (i 0).val; rw [index_4]; show (0) * 512 + 1 * r.val = (i 0).val; omega
  | ⟨1, _⟩ => show win0_4.index t 1 * 1024 + 1 * l.val = (i 1).val; rw [index_4]; show (0) * 1024 + 1 * l.val = (i 1).val; omega

theorem w_b_entry (i : S384x1024.Idx) : V m c main_v1 i = m ((c : Thread nD τ).loc main_arg5) i := by
  entry_read
  rfl

theorem w_b_read (t : Fin cfg0.N) (r : Fin 384) (l : Fin 1024) (i : S384x1024.Idx) (h0 : (i 0).val = r.val) (h1 : (i 1).val = l.val) :
    (iblk m c 5 t : Vec Ideal S384x1024 .bf16) (ix2 r l) = m ((c : Thread nD τ).loc main_arg5) i := by
  refine Eq.trans ?_ (w_b_entry m c i)
  show V m c main_v1 ((win0_5.blk t).view.emb (ix2 r l)) = V m c main_v1 i
  refine congrArg (V m c main_v1) (funext fun a => Fin.ext ?_)
  match a with
  | ⟨0, _⟩ => show win0_5.index t 0 * 384 + 1 * r.val = (i 0).val; rw [index_5]; show (0) * 384 + 1 * r.val = (i 0).val; omega
  | ⟨1, _⟩ => show win0_5.index t 1 * 1024 + 1 * l.val = (i 1).val; rw [index_5]; show (0) * 1024 + 1 * l.val = (i 1).val; omega

theorem w_c_entry (i : S512x1024.Idx) : V m c main_v2 i = m ((c : Thread nD τ).loc main_arg6) i := by
  entry_read
  rfl

theorem w_c_read (t : Fin cfg0.N) (r : Fin 512) (l : Fin 1024) (i : S512x1024.Idx) (h0 : (i 0).val = r.val) (h1 : (i 1).val = l.val) :
    (iblk m c 6 t : Vec Ideal S512x1024 .bf16) (ix2 r l) = m ((c : Thread nD τ).loc main_arg6) i := by
  refine Eq.trans ?_ (w_c_entry m c i)
  show V m c main_v2 ((win0_6.blk t).view.emb (ix2 r l)) = V m c main_v2 i
  refine congrArg (V m c main_v2) (funext fun a => Fin.ext ?_)
  match a with
  | ⟨0, _⟩ => show win0_6.index t 0 * 512 + 1 * r.val = (i 0).val; rw [index_6]; show (0) * 512 + 1 * r.val = (i 0).val; omega
  | ⟨1, _⟩ => show win0_6.index t 1 * 1024 + 1 * l.val = (i 1).val; rw [index_6]; show (0) * 1024 + 1 * l.val = (i 1).val; omega

abbrev G : Mat 16384 1024 :=
  gathered (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem written_apply (t : Fin cfg0.N) (r l : Fin 1024) (i : S16384x1024.Idx) (h0 : (i 0).val = 1024 * t.val + r.val) (h1 : (i 1).val = l.val) :
    out0_7 (iblk m c 0 t) (iblk m c 1 t) (iblk m c 2 t) (iblk m c 3 t) (iblk m c 4 t) (iblk m c 5 t) (iblk m c 6 t) (ix2 r l) = G m c i := by
  refine (congrFun (out_eq (iblk m c 0 t) (iblk m c 1 t) (iblk m c 2 t) (iblk m c 3 t) (iblk m c 4 t) (iblk m c 5 t) (iblk m c 6 t)) (ix2 r l)).trans ((pay_apply (iblk m c 0 t) (iblk m c 1 t) (iblk m c 2 t) (iblk m c 3 t) (iblk m c 4 t) (iblk m c 5 t) (iblk m c 6 t) r l).trans ?_)
  refine congrArg₂ (· + ·) (congrArg₂ (· + ·) (congrArg₂ (· + ·) (x_read m c t r l i h0 h1) ?_) ?_) ?_
  · exact Finset.sum_congr rfl fun k _ => congrArg₂ (· * ·) (o_a_read m c t r k (ix2 (i 0) k) h0 rfl) (w_a_read m c t k l (ix2 k (i 1)) rfl h1)
  · exact Finset.sum_congr rfl fun k _ => congrArg₂ (· * ·) (o_b_read m c t r k (ix2 (i 0) k) h0 rfl) (w_b_read m c t k l (ix2 k (i 1)) rfl h1)
  · exact Finset.sum_congr rfl fun k _ => congrArg₂ (· * ·) (o_c_read m c t r k (ix2 (i 0) k) h0 rfl) (w_c_read m c t k l (ix2 k (i 1)) rfl h1)

theorem result_eq : (dats m 0 c).arrAt 7 cfg0.N = G m c := by
  refine (dats m 0 c).arrAt_eq_of_covers 7 _ (by decide +kernel) fun t hf y => ?_
  blk_simp
  rw [after0_7]
  have hy : (y : S1024x1024.Idx) = ix2 (y 0 : Fin 1024) (y 1 : Fin 1024) := funext fun a => match a with | ⟨0, _⟩ => rfl | ⟨1, _⟩ => rfl
  refine Eq.trans (congrArg (out0_7 (iblk m c 0 t) (iblk m c 1 t) (iblk m c 2 t) (iblk m c 3 t) (iblk m c 4 t) (iblk m c 5 t) (iblk m c 6 t)) hy) (written_apply m c t (y 0 : Fin 1024) (y 1 : Fin 1024) _ ?_ ?_)
  · show win0_7.index t 0 * 1024 + 1 * (y 0).val = _
    rw [index_7]
    show t.val * 1024 + 1 * (y 0).val = 1024 * t.val + (y 0).val
    omega
  · show win0_7.index t 1 * 1024 + 1 * (y 1).val = _
    rw [index_7]
    show 0 * 1024 + 1 * (y 1).val = (y 1).val
    omega

end Cert.OutputIdeal.Gather

namespace Cert.OutputReferenceIdeal.Gather

open Idealize.ShloMosaic Idealize.ShloMosaic.TcCoe Idealize.ShloMosaic.Tactic Idealize.SL.Sem
open Cert.OutputReferenceIdeal Cert.OutputReferenceIdeal.Gen Cert.OutputReferenceIdeal.Read Cert.Calls

/-- A sum over 1408 places, cut after the first 512 and the next 384. -/
theorem sum_cut (f : Fin 1408 → EReal) :
    ∑ k, f k = (∑ k : Fin 512, f ⟨k.val, by have := k.isLt; omega⟩) + (∑ k : Fin 384, f ⟨512 + k.val, by have := k.isLt; omega⟩)
      + ∑ k : Fin 512, f ⟨896 + k.val, by have := k.isLt; omega⟩ := by
  have h1 := Fin.sum_univ_add (a := 896) (b := 512) f
  have h2 := Fin.sum_univ_add (a := 512) (b := 384) fun k => f (Fin.castAdd 512 k)
  rw [h2] at h1
  exact h1

theorem reference_eq (x : Mat 16384 1024) (y₁ : Mat 16384 512) (y₂ : Mat 16384 384) (y₃ : Mat 16384 512) (w₁ : Mat 512 1024) (w₂ : Mat 384 1024) (w₃ : Mat 512 1024) :
    val_main_v4 (F := Ideal) x y₁ y₂ y₃ w₁ w₂ w₃ = gathered x y₁ y₂ y₃ w₁ w₂ w₃ := by
  funext i
  pointwise [val_main_v4, val_main_v3, val_main_v2, val_main_v1, val_main_v0, gathered]
  refine (congrArg (x i + ·) (sum_cut _)).trans ?_
  rw [← add_assoc, ← add_assoc]
  refine congrArg₂ (· + ·) (congrArg₂ (· + ·) (congrArg (x i + ·) (Finset.sum_congr rfl fun k _ => ?_)) (Finset.sum_congr rfl fun k _ => ?_)) (Finset.sum_congr rfl fun k _ => ?_)
  · have hk := k.isLt
    rw [dif_pos (show k.val < 512 from hk), dif_pos (show k.val < 512 from hk)]
  · have hk := k.isLt
    have e : ∀ h, (⟨512 + k.val - 512, h⟩ : Fin 384) = k := fun h => Fin.ext (Nat.add_sub_cancel_left 512 k.val)
    rw [dif_neg (show ¬512 + k.val < 512 by omega), dif_pos (show 512 + k.val - 512 < 384 by omega),
      dif_neg (show ¬512 + k.val < 512 by omega), dif_pos (show 512 + k.val - 512 < 384 by omega), e]
  · have hk := k.isLt
    have e : ∀ h, (⟨896 + k.val - 512 - 384, h⟩ : Fin 512) = k := fun h => Fin.ext (by show 896 + k.val - 512 - 384 = k.val; omega)
    rw [dif_neg (show ¬896 + k.val < 512 by omega), dif_neg (show ¬896 + k.val - 512 < 384 by omega),
      dif_neg (show ¬896 + k.val < 512 by omega), dif_neg (show ¬896 + k.val - 512 < 384 by omega), e]

end Cert.OutputReferenceIdeal.Gather
-- ==== Proof.Project.lean ====
/-
  The norm and the input projection: what the kernel leaves and what the plain reference computes.
-/
module

public import proofs.«01_k».proof.Proof.Calls
public import proofs.«01_k».proof.Proof.Gen.ProjectionIdeal.Value
public import proofs.«01_k».proof.Proof.Gen.ProjectionReferenceIdeal.Read
public import Idealize.ShloMosaic.Lib.Pipeline.ValueKit.Held
public import Idealize.ShloMosaic.Lib.VecWindow

@[expose] public section

set_option maxRecDepth 16384

noncomputable section

namespace Cert.ProjectionIdeal.Project

open Idealize.ShloMosaic Idealize.ShloMosaic.TcCoe Idealize.ShloMosaic.Tactic Idealize.SL.Sem
open Cert.ProjectionIdeal Cert.ProjectionIdeal.Gen Cert.ProjectionIdeal.Value Cert.Calls

theorem index_0 : ∀ t : Fin cfg0.N, win0_0.index t = ![t.val / 2, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, t.val % 2] := (by decide +kernel : ∀ t : Fin grid0.N, _)
theorem index_3 : ∀ t : Fin cfg0.N, win0_3.index t = ![t.val / 2, t.val % 2] := (by decide +kernel : ∀ t : Fin grid0.N, _)

/-! ## A grid point's blocks -/

section Run

variable (arg2 : Memref sig .tc .vmem S512x1024 .f32) (harg2 : arg2.IsWhole) (arg3 : Memref sig .tc .vmem S1x1024 .f32) (harg3 : arg3.IsWhole) (arg4 : Memref sig .tc .vmem S1024x2432 .bf16) (harg4 : arg4.IsWhole) (arg5 : Memref sig .tc .vmem S512x2432 .f32) (harg5 : arg5.IsWhole) (arg6 : Memref sig .tc .vmem S512x1024 .bf16) (harg6 : arg6.IsWhole)
variable (c : Dev nD) (i : grid0.Coords)

/-- The first point of a row block stores the norm's rows. -/
theorem scratch_A (hc0 : cond0_0 i) (x0 : Vec Ideal S512x1024 .f32) (x1 : Vec Ideal S1x1024 .f32) (x2 : Vec Ideal S1024x2432 .bf16) :
    sout0_A_0 (F := Ideal) c i arg2 harg2 arg3 harg3 arg4 harg4 arg5 harg5 arg6 harg6 hc0 x0 x1 x2 = k0_pay1 x0 x1 := by
  have e0 : arg2.view.readAt (Elt Ideal) (Rect.unit (s := S512x1024) ![0, 0] S512x1024.size inb_S512x1024_S512x1024_0_0).toLoadRect (harg2.unread x0) = x0 := by
    rw [View.readAt_full, harg2.read_unread]
  have e1 : arg3.view.readAt (Elt Ideal) (Rect.unit (s := S1x1024) ![0, 0] S1x1024.size inb_S1x1024_S1x1024_0_0).toLoadRect (harg3.unread x1) = x1 := by
    rw [View.readAt_full, harg3.read_unread]
  unfold sout0_A_0 kernelRun0_A
  exact (View.read_writes_full _ _ _ _ _).trans (congrArg₂ k0_pay1 e0 e1)

theorem run_A (hc0 : cond0_0 i) (x0 : Vec Ideal S512x1024 .f32) (x1 : Vec Ideal S1x1024 .f32) (x2 : Vec Ideal S1024x2432 .bf16) :
    out0_A_3 (F := Ideal) c i arg2 harg2 arg3 harg3 arg4 harg4 arg5 harg5 arg6 harg6 hc0 x0 x1 x2 = k0_pay2 (k0_pay1 x0 x1) x2 := by
  have e0 : arg2.view.readAt (Elt Ideal) (Rect.unit (s := S512x1024) ![0, 0] S512x1024.size inb_S512x1024_S512x1024_0_0).toLoadRect (harg2.unread x0) = x0 := by
    rw [View.readAt_full, harg2.read_unread]
  have e1 : arg3.view.readAt (Elt Ideal) (Rect.unit (s := S1x1024) ![0, 0] S1x1024.size inb_S1x1024_S1x1024_0_0).toLoadRect (harg3.unread x1) = x1 := by
    rw [View.readAt_full, harg3.read_unread]
  have e2 : arg4.view.readAt (Elt Ideal) (Rect.unit (s := S1024x2432) ![0, 0] S1024x2432.size inb_S1024x2432_S1024x2432_0_0).toLoadRect (harg4.unread x2) = x2 := by
    rw [View.readAt_full, harg4.read_unread]
  unfold out0_A_3 kernelRun0_A
  dsimp only
  rw [View.read_writes_full]
  refine congrArg₂ k0_pay2 ?_ e2
  unfold kernelRun0_A.sl.v3
  refine (View.readCov_full _ _ _ _ _).trans ?_
  exact congrArg₂ k0_pay1 e0 e1

theorem run_B (hc0 : ¬cond0_0 i) (x0 : Vec Ideal S512x1024 .f32) (x1 : Vec Ideal S1x1024 .f32) (x2 : Vec Ideal S1024x2432 .bf16) (xs0 : Vec Ideal S512x1024 .bf16) :
    out0_B_3 (F := Ideal) c i arg2 harg2 arg3 harg3 arg4 harg4 arg5 harg5 arg6 harg6 hc0 x0 x1 x2 xs0 = k0_pay2 xs0 x2 := by
  have e2 : arg4.view.readAt (Elt Ideal) (Rect.unit (s := S1024x2432) ![0, 0] S1024x2432.size inb_S1024x2432_S1024x2432_0_0).toLoadRect (harg4.unread x2) = x2 := by
    rw [View.readAt_full, harg4.read_unread]
  have es : arg6.view.readAt (Elt Ideal) (Rect.unit (s := S512x1024) ![0, 0] S512x1024.size inb_S512x1024_S512x1024_0_0).toLoadRect (harg6.unread xs0) = xs0 := by
    rw [View.readAt_full, harg6.read_unread]
  unfold out0_B_3 kernelRun0_B
  dsimp only
  rw [View.read_writes_full]
  rw [e2, es]

end Run

theorem norm_apply (x0 : Vec Ideal S512x1024 .f32) (x1 : Vec Ideal S1x1024 .f32) (r : Fin 512) (k : Fin 1024) :
    k0_pay1 x0 x1 (ix2 r k) = normed x0 (fun j => x1 (ix2 0 (j 0))) r k := by
  pointwise [k0_pay1, normed]

theorem pay_apply (h : Vec Ideal S512x1024 .bf16) (w : Vec Ideal S1024x2432 .bf16) (r : Fin 512) (l : Fin 2432) :
    k0_pay2 h w (ix2 r l) = ∑ k, h (ix2 r k) * w (ix2 k l) := by
  pointwise [k0_pay2]

variable (m : (ℓ : Loc nD τ sig) → Buf (Elt Ideal) ℓ) (c : Dev nD)

theorem x_read (t : Fin cfg0.N) (r : Fin 512) (l : Fin 1024) (i : S16384x1024.Idx) (h0 : (i 0).val = 512 * (t.val / 2) + r.val) (h1 : (i 1).val = l.val) :
    (iblk m c 0 t : Vec Ideal S512x1024 .f32) (ix2 r l) = m ((c : Thread nD τ).loc main_arg0) i := by
  refine Eq.trans ?_ (congrFun (V_main_arg0 m c) i)
  show V m c main_arg0 ((win0_0.blk t).view.emb (ix2 r l)) = V m c main_arg0 i
  refine congrArg (V m c main_arg0) (funext fun a => Fin.ext ?_)
  match a with
  | ⟨0, _⟩ => show win0_0.index t 0 * 512 + 1 * r.val = (i 0).val; rw [index_0]; show (t.val / 2) * 512 + 1 * r.val = (i 0).val; omega
  | ⟨1, _⟩ => show win0_0.index t 1 * 1024 + 1 * l.val = (i 1).val; rw [index_0]; show (0) * 1024 + 1 * l.val = (i 1).val; omega

theorem gain_entry (k : Fin 1024) : V m c main_v1 (ix2 0 k) = m ((c : Thread nD τ).loc main_arg1) (ix1 k) := by
  entry_read
  pointwise

theorem gain_read (t : Fin cfg0.N) (k : Fin 1024) :
    (iblk m c 1 t : Vec Ideal S1x1024 .f32) (ix2 0 k) = m ((c : Thread nD τ).loc main_arg1) (ix1 k) := by
  refine Eq.trans ?_ (gain_entry m c k)
  show V m c main_v1 ((win0_1.blk t).view.emb (ix2 0 k)) = V m c main_v1 (ix2 0 k)
  refine congrArg (V m c main_v1) (funext fun a => Fin.ext ?_)
  match a with
  | ⟨0, _⟩ => show win0_1.index t 0 * 1 + 1 * 0 = 0; rw [index_1]; rfl
  | ⟨1, _⟩ => show win0_1.index t 1 * 1024 + 1 * k.val = k.val; rw [index_1]; show 0 * 1024 + 1 * k.val = k.val; omega

theorem weights_entry (i : S1024x4864.Idx) : V m c main_v0 i = m ((c : Thread nD τ).loc main_arg2) i := by
  entry_read
  rfl

theorem w_read (t : Fin cfg0.N) (r : Fin 1024) (l : Fin 2432) (i : S1024x4864.Idx) (h0 : (i 0).val = r.val) (h1 : (i 1).val = 2432 * (t.val % 2) + l.val) :
    (iblk m c 2 t : Vec Ideal S1024x2432 .bf16) (ix2 r l) = m ((c : Thread nD τ).loc main_arg2) i := by
  refine Eq.trans ?_ (weights_entry m c i)
  show V m c main_v0 ((win0_2.blk t).view.emb (ix2 r l)) = V m c main_v0 i
  refine congrArg (V m c main_v0) (funext fun a => Fin.ext ?_)
  match a with
  | ⟨0, _⟩ => show win0_2.index t 0 * 1024 + 1 * r.val = (i 0).val; rw [index_2]; show (0) * 1024 + 1 * r.val = (i 0).val; omega
  | ⟨1, _⟩ => show win0_2.index t 1 * 2432 + 1 * l.val = (i 1).val; rw [index_2]; show (t.val % 2) * 2432 + 1 * l.val = (i 1).val; omega

/-! ## The norm's rows, held over a row block's two points -/

/-- The first point of `t`'s row block. -/
def first (t : Fin cfg0.N) : Fin cfg0.N := ⟨2 * (t.val / 2), lt_of_le_of_lt (Nat.mul_div_le _ _) t.isLt⟩

set_option maxHeartbeats 1000000 in
theorem rows_first (t : Fin cfg0.N) (h0 : t.val % 2 = 0) : (outsAt0 m c t.val t.isLt).2 = k0_pay1 (iblk m c 0 t) (iblk m c 1 t) := by
  refine (congrArg (fun p => p.2) (outsAt0_A m c t h0)).trans ?_
  dsimp only
  exact scratch_A (ms0_0 t) (hs0_0 t) (ms0_1 t) (hs0_1 t) (ms0_2 t) (hs0_2 t) (ms0_3 t) (hs0_3 t) scM0_0 (Memref.isWhole_whole _) c (grid0.coords t) ((hcond0_0 t).mpr h0) (iblk m c 0 t) (iblk m c 1 t) (iblk m c 2 t)

theorem rows_next (t : Fin cfg0.N) (h0 : ¬t.val % 2 = 0) : (outsAt0 m c t.val t.isLt).2
    = (outsAt0 m c (t.val - 1) (Nat.lt_of_le_of_lt (Nat.sub_le _ _) t.isLt)).2 := by
  refine (congrArg (fun p => p.2) (outsAt0_B m c t h0)).trans ?_
  dsimp only
  unfold sout0_B_0
  rfl

theorem rows_held (t : Fin cfg0.N) : (outsAt0 m c t.val t.isLt).2 = k0_pay1 (iblk m c 0 (first t)) (iblk m c 1 (first t)) :=
  Pipeline.eq_of_write_hold (fun n h => (outsAt0 m c n h).2) 2 (fun t => k0_pay1 (iblk m c 0 t) (iblk m c 1 t)) (rows_first m c) (rows_next m c) t

theorem x_block (t s : Fin cfg0.N) (h : s.val / 2 = t.val / 2) : iblk m c 0 s = iblk m c 0 t := by
  have hN : t.val < 64 := lt_of_lt_of_eq t.isLt N_0
  funext y
  have hy : (y : S512x1024.Idx) = ix2 (y 0 : Fin 512) (y 1 : Fin 1024) := funext fun a => match a with | ⟨0, _⟩ => rfl | ⟨1, _⟩ => rfl
  have hy0 : (y 0).val < 512 := (y 0).isLt
  let i : S16384x1024.Idx := ix2 ⟨512 * (t.val / 2) + (y 0).val, by omega⟩ (y 1 : Fin 1024)
  refine (congrArg (iblk m c 0 s) hy).trans (Eq.trans ?_ (congrArg (iblk m c 0 t) hy).symm)
  exact (x_read m c s (y 0) (y 1) i (by show 512 * (t.val / 2) + (y 0).val = _; rw [h]) rfl).trans (x_read m c t (y 0) (y 1) i rfl rfl).symm

theorem gain_block (t s : Fin cfg0.N) : iblk m c 1 s = iblk m c 1 t := by
  funext y
  have hy : (y : S1x1024.Idx) = ix2 0 (y 1 : Fin 1024) := funext fun a => match a with
    | ⟨0, _⟩ => Subsingleton.elim (α := Fin 1) _ _
    | ⟨1, _⟩ => rfl
  refine (congrArg (iblk m c 1 s) hy).trans (Eq.trans ?_ (congrArg (iblk m c 1 t) hy).symm)
  exact (gain_read m c s (y 1)).trans (gain_read m c t (y 1)).symm

set_option maxHeartbeats 1000000 in
/-- What a point writes, over its blocks. -/
theorem written (t : Fin cfg0.N) : (outsAt0 m c t.val t.isLt).1 = k0_pay2 (k0_pay1 (iblk m c 0 t) (iblk m c 1 t)) (iblk m c 2 t) := by
  by_cases h0 : t.val % 2 = 0
  · refine (congrArg (fun p => p.1) (outsAt0_A m c t h0)).trans ?_
    dsimp only
    exact run_A (ms0_0 t) (hs0_0 t) (ms0_1 t) (hs0_1 t) (ms0_2 t) (hs0_2 t) (ms0_3 t) (hs0_3 t) scM0_0 (Memref.isWhole_whole _) c (grid0.coords t) ((hcond0_0 t).mpr h0) (iblk m c 0 t) (iblk m c 1 t) (iblk m c 2 t)
  · have hp : t.val - 1 < cfg0.N := Nat.lt_of_le_of_lt (Nat.sub_le _ _) t.isLt
    have hr := rows_held m c ⟨t.val - 1, hp⟩
    rw [x_block m c t (first ⟨t.val - 1, hp⟩) (by show 2 * ((t.val - 1) / 2) / 2 = t.val / 2; omega), gain_block m c t (first ⟨t.val - 1, hp⟩)] at hr
    rw [← hr]
    refine (congrArg (fun p => p.1) (outsAt0_B m c t h0)).trans ?_
    dsimp only
    exact run_B (ms0_0 t) (hs0_0 t) (ms0_1 t) (hs0_1 t) (ms0_2 t) (hs0_2 t) (ms0_3 t) (hs0_3 t) scM0_0 (Memref.isWhole_whole _) c (grid0.coords t) (fun h => h0 ((hcond0_0 t).mp h)) (iblk m c 0 t) (iblk m c 1 t) (iblk m c 2 t) _

/-! ## The result -/

theorem normed_read (t : Fin cfg0.N) (r : Fin 512) (R : Fin 16384) (hR : R.val = 512 * (t.val / 2) + r.val) (k : Fin 1024) :
    k0_pay1 (iblk m c 0 t) (iblk m c 1 t) (ix2 r k) = normed (m ((c : Thread nD τ).loc main_arg0)) (m ((c : Thread nD τ).loc main_arg1)) R k := by
  refine (norm_apply (iblk m c 0 t) (iblk m c 1 t) r k).trans ?_
  have hx : ∀ j, (iblk m c 0 t : Vec Ideal S512x1024 .f32) (ix2 r j) = m ((c : Thread nD τ).loc main_arg0) (ix2 R j) :=
    fun j => x_read m c t r j (ix2 R j) hR rfl
  refine congrArg₂ (· * ·) (congrArg₂ (· * ·) (hx k) (congrArg Ideal.rsqrt (congrArg (Ideal.div · width + eps) ?_))) (gain_read m c t k)
  exact Finset.sum_congr rfl fun j _ => congrArg₂ (· * ·) (hx j) (hx j)

abbrev G : Mat 16384 4864 := projected (m ((c : Thread nD τ).loc main_arg0)) (m ((c : Thread nD τ).loc main_arg1)) (m ((c : Thread nD τ).loc main_arg2))

theorem written_apply (t : Fin cfg0.N) (r : Fin 512) (l : Fin 2432) (i : S16384x4864.Idx)
    (h0 : (i 0).val = 512 * (t.val / 2) + r.val) (h1 : (i 1).val = 2432 * (t.val % 2) + l.val) :
    ((outsAt0 m c t.val t.isLt).1 : Vec Ideal S512x2432 .f32) (ix2 r l) = G m c i := by
  refine (congrFun (written m c t) (ix2 r l)).trans ((pay_apply (k0_pay1 (iblk m c 0 t) (iblk m c 1 t)) (iblk m c 2 t) r l).trans ?_)
  exact Finset.sum_congr rfl fun k _ => congrArg₂ (· * ·) (normed_read m c t r (i 0) h0 k) (w_read m c t k l (ix2 k (i 1)) rfl h1)

theorem result_eq : (dats m 0 c).arrAt 3 cfg0.N = G m c := by
  refine (dats m 0 c).arrAt_eq_of_covers 3 _ (by decide +kernel) fun t hf y => ?_
  blk_simp
  rw [after0_3]
  have hy : (y : S512x2432.Idx) = ix2 (y 0 : Fin 512) (y 1 : Fin 2432) := funext fun a => match a with | ⟨0, _⟩ => rfl | ⟨1, _⟩ => rfl
  refine Eq.trans (congrArg (outsAt0 m c t.val t.isLt).1 hy) (written_apply m c t (y 0 : Fin 512) (y 1 : Fin 2432) _ ?_ ?_)
  · show win0_3.index t 0 * 512 + 1 * (y 0).val = _
    rw [index_3]
    show (t.val / 2) * 512 + 1 * (y 0).val = 512 * (t.val / 2) + (y 0).val
    omega
  · show win0_3.index t 1 * 2432 + 1 * (y 1).val = _
    rw [index_3]
    show (t.val % 2) * 2432 + 1 * (y 1).val = 2432 * (t.val % 2) + (y 1).val
    omega

end Cert.ProjectionIdeal.Project

namespace Cert.ProjectionReferenceIdeal.Project

open Idealize.ShloMosaic Idealize.ShloMosaic.TcCoe Idealize.ShloMosaic.Tactic Idealize.SL.Sem
open Cert.ProjectionReferenceIdeal Cert.ProjectionReferenceIdeal.Gen Cert.ProjectionReferenceIdeal.Read Cert.Calls

theorem normed_eq (x : Mat 16384 1024) (g : (⟨1, ![1024]⟩ : Shape).Idx → EReal) (r : Fin 16384) (k : Fin 1024) :
    val_main_v12 (F := Ideal) x g (ix2 r k) = normed x g r k := by
  rw [val_main_v12_apply, val_main_v11_apply, val_main_v10_apply, val_main_v9_apply, val_main_v8_apply, val_main_v7_apply, val_main_v6_apply,
    val_main_v5_apply, val_main_v4_apply, val_main_v3_apply, val_main_v2_apply, val_main_v1_apply]
  refine congrArg₂ (· * ·) (congrArg₂ (· * ·) rfl (congrArg Ideal.rsqrt (congrArg (Ideal.div · width + eps) ?_))) (congrArg g ?_)
  · refine (congrArg (· + _) Ideal.ofBits_zero_f32).trans ((zero_add _).trans (Finset.sum_congr rfl fun j _ => ?_))
    have e : idx_main_v1 (idx_main_v2 (idx_main_v8 (ix2 r k))) j = ix2 r j := funext fun a => match a with | ⟨0, _⟩ => rfl | ⟨1, _⟩ => rfl
    rw [e]
    rfl
  · exact funext fun a => match a with | ⟨0, _⟩ => rfl

theorem projected_eq (x : Mat 16384 1024) (g : (⟨1, ![1024]⟩ : Shape).Idx → EReal) (w : Mat 1024 4864) :
    val_main_v13 (F := Ideal) x g w = projected x g w := by
  funext i
  rw [val_main_v13_apply]
  refine Finset.sum_congr rfl fun k _ => congrArg₂ (· * ·) ?_ (congrArg w ?_)
  · have e : lidx_main_v13 i k = ix2 (i 0) k := funext fun a => match a with | ⟨0, _⟩ => rfl | ⟨1, _⟩ => rfl
    exact (congrArg (val_main_v12 (F := Ideal) x g) e).trans (normed_eq x g (i 0) k)
  · exact funext fun a => match a with | ⟨0, _⟩ => rfl | ⟨1, _⟩ => rfl

end Cert.ProjectionReferenceIdeal.Project
-- ==== Proof.Gate.lean ====
/-
  The channel mixer's first projection with its gate: what the kernel leaves and what the plain reference computes.
-/
module

public import proofs.«01_k».proof.Proof.Calls
public import proofs.«01_k».proof.Proof.Gen.FfnUpIdeal.Value
public import proofs.«01_k».proof.Proof.Gen.FfnUpReferenceIdeal.Read
public import Idealize.ShloMosaic.Lib.Pipeline.ValueKit.Held
public import Idealize.ShloMosaic.Lib.VecWindow

@[expose] public section

set_option maxRecDepth 16384

noncomputable section

namespace Cert.FfnUpIdeal.Gate

open Idealize.ShloMosaic Idealize.ShloMosaic.TcCoe Idealize.ShloMosaic.Tactic Idealize.SL.Sem
open Cert.FfnUpIdeal Cert.FfnUpIdeal.Gen Cert.FfnUpIdeal.Value Cert.Calls

theorem index_0 : ∀ t : Fin cfg0.N, win0_0.index t = ![t.val / 2, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, t.val % 2] := (by decide +kernel : ∀ t : Fin grid0.N, _)
theorem index_3 : ∀ t : Fin cfg0.N, win0_3.index t = ![0, 2 + t.val % 2] := (by decide +kernel : ∀ t : Fin grid0.N, _)
theorem index_4 : ∀ t : Fin cfg0.N, win0_4.index t = ![t.val / 2, t.val % 2] := (by decide +kernel : ∀ t : Fin grid0.N, _)

/-! ## A grid point's blocks -/

section Run

variable (arg2 : Memref sig .tc .vmem S512x1024 .f32) (harg2 : arg2.IsWhole) (arg3 : Memref sig .tc .vmem S1x1024 .f32) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S512x1408 .bf16) (harg6 : arg6.IsWhole) (arg7 : Memref sig .tc .vmem S512x1024 .bf16) (harg7 : arg7.IsWhole)
variable (c : Dev nD) (i : grid0.Coords)

/-- The first point of a row block stores the norm's rows. -/
theorem scratch_A (hc0 : cond0_0 i) (x0 : Vec Ideal S512x1024 .f32) (x1 : Vec Ideal S1x1024 .f32) (x2 : Vec Ideal S1024x1408 .bf16) (x3 : Vec Ideal S1024x1408 .bf16) :
    sout0_A_0 (F := Ideal) c i arg2 harg2 arg3 harg3 arg4 harg4 arg5 harg5 arg6 harg6 arg7 harg7 hc0 x0 x1 x2 x3 = k0_pay1 x0 x1 := by
  have e0 : arg2.view.readAt (Elt Ideal) (Rect.unit (s := S512x1024) ![0, 0] S512x1024.size inb_S512x1024_S512x1024_0_0).toLoadRect (harg2.unread x0) = x0 := by
    rw [View.readAt_full, harg2.read_unread]
  have e1 : arg3.view.readAt (Elt Ideal) (Rect.unit (s := S1x1024) ![0, 0] S1x1024.size inb_S1x1024_S1x1024_0_0).toLoadRect (harg3.unread x1) = x1 := by
    rw [View.readAt_full, harg3.read_unread]
  unfold sout0_A_0 kernelRun0_A
  exact (View.read_writes_full _ _ _ _ _).trans (congrArg₂ k0_pay1 e0 e1)

theorem run_A (hc0 : cond0_0 i) (x0 : Vec Ideal S512x1024 .f32) (x1 : Vec Ideal S1x1024 .f32) (x2 : Vec Ideal S1024x1408 .bf16) (x3 : Vec Ideal S1024x1408 .bf16) :
    out0_A_4 (F := Ideal) c i arg2 harg2 arg3 harg3 arg4 harg4 arg5 harg5 arg6 harg6 arg7 harg7 hc0 x0 x1 x2 x3 = k0_pay2 (k0_pay1 x0 x1) x2 x3 := by
  have e0 : arg2.view.readAt (Elt Ideal) (Rect.unit (s := S512x1024) ![0, 0] S512x1024.size inb_S512x1024_S512x1024_0_0).toLoadRect (harg2.unread x0) = x0 := by
    rw [View.readAt_full, harg2.read_unread]
  have e1 : arg3.view.readAt (Elt Ideal) (Rect.unit (s := S1x1024) ![0, 0] S1x1024.size inb_S1x1024_S1x1024_0_0).toLoadRect (harg3.unread x1) = x1 := by
    rw [View.readAt_full, harg3.read_unread]
  have e2 : arg4.view.readAt (Elt Ideal) (Rect.unit (s := S1024x1408) ![0, 0] S1024x1408.size inb_S1024x1408_S1024x1408_0_0).toLoadRect (harg4.unread x2) = x2 := by
    rw [View.readAt_full, harg4.read_unread]
  have e3 : arg5.view.readAt (Elt Ideal) (Rect.unit (s := S1024x1408) ![0, 0] S1024x1408.size inb_S1024x1408_S1024x1408_0_0).toLoadRect (harg5.unread x3) = x3 := by
    rw [View.readAt_full, harg5.read_unread]
  unfold out0_A_4 kernelRun0_A
  dsimp only
  rw [View.read_writes_full]
  refine (congrFun (congrFun (congrArg k0_pay2 ?_) _) _).trans (congrArg₂ (k0_pay2 _) e2 e3)
  unfold kernelRun0_A.sl.v3
  refine (View.readCov_full _ _ _ _ _).trans ?_
  exact congrArg₂ k0_pay1 e0 e1

theorem run_B (hc0 : ¬cond0_0 i) (x0 : Vec Ideal S512x1024 .f32) (x1 : Vec Ideal S1x1024 .f32) (x2 : Vec Ideal S1024x1408 .bf16) (x3 : Vec Ideal S1024x1408 .bf16) (xs0 : Vec Ideal S512x1024 .bf16) :
    out0_B_4 (F := Ideal) c i arg2 harg2 arg3 harg3 arg4 harg4 arg5 harg5 arg6 harg6 arg7 harg7 hc0 x0 x1 x2 x3 xs0 = k0_pay2 xs0 x2 x3 := by
  have e2 : arg4.view.readAt (Elt Ideal) (Rect.unit (s := S1024x1408) ![0, 0] S1024x1408.size inb_S1024x1408_S1024x1408_0_0).toLoadRect (harg4.unread x2) = x2 := by
    rw [View.readAt_full, harg4.read_unread]
  have e3 : arg5.view.readAt (Elt Ideal) (Rect.unit (s := S1024x1408) ![0, 0] S1024x1408.size inb_S1024x1408_S1024x1408_0_0).toLoadRect (harg5.unread x3) = x3 := by
    rw [View.readAt_full, harg5.read_unread]
  have es : arg7.view.readAt (Elt Ideal) (Rect.unit (s := S512x1024) ![0, 0] S512x1024.size inb_S512x1024_S512x1024_0_0).toLoadRect (harg7.unread xs0) = xs0 := by
    rw [View.readAt_full, harg7.read_unread]
  unfold out0_B_4 kernelRun0_B
  dsimp only
  rw [View.read_writes_full]
  rw [e2, e3, es]

end Run

theorem norm_apply (x0 : Vec Ideal S512x1024 .f32) (x1 : Vec Ideal S1x1024 .f32) (r : Fin 512) (k : Fin 1024) :
    k0_pay1 x0 x1 (ix2 r k) = normed x0 (fun j => x1 (ix2 0 (j 0))) r k := by
  pointwise [k0_pay1, normed]

theorem pay_apply (h : Vec Ideal S512x1024 .bf16) (w w' : Vec Ideal S1024x1408 .bf16) (r : Fin 512) (l : Fin 1408) :
    k0_pay2 h w w' (ix2 r l) = Ideal.div (∑ k, h (ix2 r k) * w (ix2 k l)) (1 + Ideal.exp (0 - ∑ k, h (ix2 r k) * w (ix2 k l)))
      * ∑ k, h (ix2 r k) * w' (ix2 k l) := by
  pointwise [k0_pay2]

variable (m : (ℓ : Loc nD τ sig) → Buf (Elt Ideal) ℓ) (c : Dev nD)

theorem x_read (t : Fin cfg0.N) (r : Fin 512) (l : Fin 1024) (i : S16384x1024.Idx) (h0 : (i 0).val = 512 * (t.val / 2) + r.val) (h1 : (i 1).val = l.val) :
    (iblk m c 0 t : Vec Ideal S512x1024 .f32) (ix2 r l) = m ((c : Thread nD τ).loc main_arg0) i := by
  refine Eq.trans ?_ (congrFun (V_main_arg0 m c) i)
  show V m c main_arg0 ((win0_0.blk t).view.emb (ix2 r l)) = V m c main_arg0 i
  refine congrArg (V m c main_arg0) (funext fun a => Fin.ext ?_)
  match a with
  | ⟨0, _⟩ => show win0_0.index t 0 * 512 + 1 * r.val = (i 0).val; rw [index_0]; show (t.val / 2) * 512 + 1 * r.val = (i 0).val; omega
  | ⟨1, _⟩ => show win0_0.index t 1 * 1024 + 1 * l.val = (i 1).val; rw [index_0]; show (0) * 1024 + 1 * l.val = (i 1).val; omega

theorem gain_entry (k : Fin 1024) : V m c main_v1 (ix2 0 k) = m ((c : Thread nD τ).loc main_arg1) (ix1 k) := by
  entry_read
  pointwise

theorem gain_read (t : Fin cfg0.N) (k : Fin 1024) :
    (iblk m c 1 t : Vec Ideal S1x1024 .f32) (ix2 0 k) = m ((c : Thread nD τ).loc main_arg1) (ix1 k) := by
  refine Eq.trans ?_ (gain_entry m c k)
  show V m c main_v1 ((win0_1.blk t).view.emb (ix2 0 k)) = V m c main_v1 (ix2 0 k)
  refine congrArg (V m c main_v1) (funext fun a => Fin.ext ?_)
  match a with
  | ⟨0, _⟩ => show win0_1.index t 0 * 1 + 1 * 0 = 0; rw [index_1]; rfl
  | ⟨1, _⟩ => show win0_1.index t 1 * 1024 + 1 * k.val = k.val; rw [index_1]; show 0 * 1024 + 1 * k.val = k.val; omega

theorem weights_entry (i : S1024x5632.Idx) : V m c main_v0 i = m ((c : Thread nD τ).loc main_arg2) i := by
  entry_read
  rfl

theorem gate_read (t : Fin cfg0.N) (r : Fin 1024) (l : Fin 1408) (i : S1024x5632.Idx) (h0 : (i 0).val = r.val) (h1 : (i 1).val = 1408 * (t.val % 2) + l.val) :
    (iblk m c 2 t : Vec Ideal S1024x1408 .bf16) (ix2 r l) = m ((c : Thread nD τ).loc main_arg2) i := by
  refine Eq.trans ?_ (weights_entry m c i)
  show V m c main_v0 ((win0_2.blk t).view.emb (ix2 r l)) = V m c main_v0 i
  refine congrArg (V m c main_v0) (funext fun a => Fin.ext ?_)
  match a with
  | ⟨0, _⟩ => show win0_2.index t 0 * 1024 + 1 * r.val = (i 0).val; rw [index_2]; show (0) * 1024 + 1 * r.val = (i 0).val; omega
  | ⟨1, _⟩ => show win0_2.index t 1 * 1408 + 1 * l.val = (i 1).val; rw [index_2]; show (t.val % 2) * 1408 + 1 * l.val = (i 1).val; omega

theorem up_read (t : Fin cfg0.N) (r : Fin 1024) (l : Fin 1408) (i : S1024x5632.Idx) (h0 : (i 0).val = r.val) (h1 : (i 1).val = 1408 * (2 + t.val % 2) + l.val) :
    (iblk m c 3 t : Vec Ideal S1024x1408 .bf16) (ix2 r l) = m ((c : Thread nD τ).loc main_arg2) i := by
  refine Eq.trans ?_ (weights_entry m c i)
  show V m c main_v0 ((win0_3.blk t).view.emb (ix2 r l)) = V m c main_v0 i
  refine congrArg (V m c main_v0) (funext fun a => Fin.ext ?_)
  match a with
  | ⟨0, _⟩ => show win0_3.index t 0 * 1024 + 1 * r.val = (i 0).val; rw [index_3]; show (0) * 1024 + 1 * r.val = (i 0).val; omega
  | ⟨1, _⟩ => show win0_3.index t 1 * 1408 + 1 * l.val = (i 1).val; rw [index_3]; show (2 + t.val % 2) * 1408 + 1 * l.val = (i 1).val; omega

/-! ## The norm's rows, held over a row block's two points -/

/-- The first point of `t`'s row block. -/
def first (t : Fin cfg0.N) : Fin cfg0.N := ⟨2 * (t.val / 2), lt_of_le_of_lt (Nat.mul_div_le _ _) t.isLt⟩

set_option maxHeartbeats 1000000 in
theorem rows_first (t : Fin cfg0.N) (h0 : t.val % 2 = 0) : (outsAt0 m c t.val t.isLt).2 = k0_pay1 (iblk m c 0 t) (iblk m c 1 t) := by
  refine (congrArg (fun p => p.2) (outsAt0_A m c t h0)).trans ?_
  dsimp only
  exact scratch_A (ms0_0 t) (hs0_0 t) (ms0_1 t) (hs0_1 t) (ms0_2 t) (hs0_2 t) (ms0_3 t) (hs0_3 t) (ms0_4 t) (hs0_4 t) scM0_0 (Memref.isWhole_whole _) c (grid0.coords t) ((hcond0_0 t).mpr h0) (iblk m c 0 t) (iblk m c 1 t) (iblk m c 2 t) (iblk m c 3 t)

theorem rows_next (t : Fin cfg0.N) (h0 : ¬t.val % 2 = 0) : (outsAt0 m c t.val t.isLt).2
    = (outsAt0 m c (t.val - 1) (Nat.lt_of_le_of_lt (Nat.sub_le _ _) t.isLt)).2 := by
  refine (congrArg (fun p => p.2) (outsAt0_B m c t h0)).trans ?_
  dsimp only
  unfold sout0_B_0
  rfl

theorem rows_held (t : Fin cfg0.N) : (outsAt0 m c t.val t.isLt).2 = k0_pay1 (iblk m c 0 (first t)) (iblk m c 1 (first t)) :=
  Pipeline.eq_of_write_hold (fun n h => (outsAt0 m c n h).2) 2 (fun t => k0_pay1 (iblk m c 0 t) (iblk m c 1 t)) (rows_first m c) (rows_next m c) t

theorem x_block (t s : Fin cfg0.N) (h : s.val / 2 = t.val / 2) : iblk m c 0 s = iblk m c 0 t := by
  have hN : t.val < 64 := lt_of_lt_of_eq t.isLt N_0
  funext y
  have hy : (y : S512x1024.Idx) = ix2 (y 0 : Fin 512) (y 1 : Fin 1024) := funext fun a => match a with | ⟨0, _⟩ => rfl | ⟨1, _⟩ => rfl
  have hy0 : (y 0).val < 512 := (y 0).isLt
  let i : S16384x1024.Idx := ix2 ⟨512 * (t.val / 2) + (y 0).val, by omega⟩ (y 1 : Fin 1024)
  refine (congrArg (iblk m c 0 s) hy).trans (Eq.trans ?_ (congrArg (iblk m c 0 t) hy).symm)
  exact (x_read m c s (y 0) (y 1) i (by show 512 * (t.val / 2) + (y 0).val = _; rw [h]) rfl).trans (x_read m c t (y 0) (y 1) i rfl rfl).symm

theorem gain_block (t s : Fin cfg0.N) : iblk m c 1 s = iblk m c 1 t := by
  funext y
  have hy : (y : S1x1024.Idx) = ix2 0 (y 1 : Fin 1024) := funext fun a => match a with
    | ⟨0, _⟩ => Subsingleton.elim (α := Fin 1) _ _
    | ⟨1, _⟩ => rfl
  refine (congrArg (iblk m c 1 s) hy).trans (Eq.trans ?_ (congrArg (iblk m c 1 t) hy).symm)
  exact (gain_read m c s (y 1)).trans (gain_read m c t (y 1)).symm

set_option maxHeartbeats 1000000 in
/-- What a point writes, over its blocks. -/
theorem written (t : Fin cfg0.N) : (outsAt0 m c t.val t.isLt).1 = k0_pay2 (k0_pay1 (iblk m c 0 t) (iblk m c 1 t)) (iblk m c 2 t) (iblk m c 3 t) := by
  by_cases h0 : t.val % 2 = 0
  · refine (congrArg (fun p => p.1) (outsAt0_A m c t h0)).trans ?_
    dsimp only
    exact run_A (ms0_0 t) (hs0_0 t) (ms0_1 t) (hs0_1 t) (ms0_2 t) (hs0_2 t) (ms0_3 t) (hs0_3 t) (ms0_4 t) (hs0_4 t) scM0_0 (Memref.isWhole_whole _) c (grid0.coords t) ((hcond0_0 t).mpr h0) (iblk m c 0 t) (iblk m c 1 t) (iblk m c 2 t) (iblk m c 3 t)
  · have hp : t.val - 1 < cfg0.N := Nat.lt_of_le_of_lt (Nat.sub_le _ _) t.isLt
    have hr := rows_held m c ⟨t.val - 1, hp⟩
    rw [x_block m c t (first ⟨t.val - 1, hp⟩) (by show 2 * ((t.val - 1) / 2) / 2 = t.val / 2; omega), gain_block m c t (first ⟨t.val - 1, hp⟩)] at hr
    rw [← hr]
    refine (congrArg (fun p => p.1) (outsAt0_B m c t h0)).trans ?_
    dsimp only
    exact run_B (ms0_0 t) (hs0_0 t) (ms0_1 t) (hs0_1 t) (ms0_2 t) (hs0_2 t) (ms0_3 t) (hs0_3 t) (ms0_4 t) (hs0_4 t) scM0_0 (Memref.isWhole_whole _) c (grid0.coords t) (fun h => h0 ((hcond0_0 t).mp h)) (iblk m c 0 t) (iblk m c 1 t) (iblk m c 2 t) (iblk m c 3 t) _

/-! ## The result -/

theorem normed_read (t : Fin cfg0.N) (r : Fin 512) (R : Fin 16384) (hR : R.val = 512 * (t.val / 2) + r.val) (k : Fin 1024) :
    k0_pay1 (iblk m c 0 t) (iblk m c 1 t) (ix2 r k) = normed (m ((c : Thread nD τ).loc main_arg0)) (m ((c : Thread nD τ).loc main_arg1)) R k := by
  refine (norm_apply (iblk m c 0 t) (iblk m c 1 t) r k).trans ?_
  have hx : ∀ j, (iblk m c 0 t : Vec Ideal S512x1024 .f32) (ix2 r j) = m ((c : Thread nD τ).loc main_arg0) (ix2 R j) :=
    fun j => x_read m c t r j (ix2 R j) hR rfl
  refine congrArg₂ (· * ·) (congrArg₂ (· * ·) (hx k) (congrArg Ideal.rsqrt (congrArg (Ideal.div · width + eps) ?_))) (gain_read m c t k)
  exact Finset.sum_congr rfl fun j _ => congrArg₂ (· * ·) (hx j) (hx j)

abbrev G : Mat 16384 2816 := gated (m ((c : Thread nD τ).loc main_arg0)) (m ((c : Thread nD τ).loc main_arg1)) (m ((c : Thread nD τ).loc main_arg2))

theorem written_apply (t : Fin cfg0.N) (r : Fin 512) (l : Fin 1408) (i : S16384x2816.Idx)
    (h0 : (i 0).val = 512 * (t.val / 2) + r.val) (h1 : (i 1).val = 1408 * (t.val % 2) + l.val) :
    ((outsAt0 m c t.val t.isLt).1 : Vec Ideal S512x1408 .bf16) (ix2 r l) = G m c i := by
  refine (congrFun (written m c t) (ix2 r l)).trans ((pay_apply (k0_pay1 (iblk m c 0 t) (iblk m c 1 t)) (iblk m c 2 t) (iblk m c 3 t) r l).trans ?_)
  have hi : (i 1).val < 2816 := (i 1).isLt
  have eg : ∑ k, k0_pay1 (iblk m c 0 t) (iblk m c 1 t) (ix2 r k) * (iblk m c 2 t : Vec Ideal S1024x1408 .bf16) (ix2 k l)
      = projected (m ((c : Thread nD τ).loc main_arg0)) (m ((c : Thread nD τ).loc main_arg1)) (m ((c : Thread nD τ).loc main_arg2)) (ix2 (i 0) ⟨(i 1).val, by omega⟩) :=
    Finset.sum_congr rfl fun k _ => congrArg₂ (· * ·) (normed_read m c t r (i 0) h0 k) (gate_read m c t k l (ix2 k ⟨(i 1).val, by omega⟩) rfl h1)
  have eu : ∑ k, k0_pay1 (iblk m c 0 t) (iblk m c 1 t) (ix2 r k) * (iblk m c 3 t : Vec Ideal S1024x1408 .bf16) (ix2 k l)
      = projected (m ((c : Thread nD τ).loc main_arg0)) (m ((c : Thread nD τ).loc main_arg1)) (m ((c : Thread nD τ).loc main_arg2)) (ix2 (i 0) ⟨2816 + (i 1).val, by omega⟩) :=
    Finset.sum_congr rfl fun k _ => congrArg₂ (· * ·) (normed_read m c t r (i 0) h0 k)
      (up_read m c t k l (ix2 k ⟨2816 + (i 1).val, by omega⟩) rfl (by show 2816 + (i 1).val = _; omega))
  rw [eg, eu]
  exact congrArg (· * _) (silu_eq _)

theorem result_eq : (dats m 0 c).arrAt 4 cfg0.N = G m c := by
  refine (dats m 0 c).arrAt_eq_of_covers 4 _ (by decide +kernel) fun t hf y => ?_
  blk_simp
  rw [after0_4]
  have hy : (y : S512x1408.Idx) = ix2 (y 0 : Fin 512) (y 1 : Fin 1408) := funext fun a => match a with | ⟨0, _⟩ => rfl | ⟨1, _⟩ => rfl
  refine Eq.trans (congrArg (outsAt0 m c t.val t.isLt).1 hy) (written_apply m c t (y 0 : Fin 512) (y 1 : Fin 1408) _ ?_ ?_)
  · show win0_4.index t 0 * 512 + 1 * (y 0).val = _
    rw [index_4]
    show (t.val / 2) * 512 + 1 * (y 0).val = 512 * (t.val / 2) + (y 0).val
    omega
  · show win0_4.index t 1 * 1408 + 1 * (y 1).val = _
    rw [index_4]
    show (t.val % 2) * 1408 + 1 * (y 1).val = 1408 * (t.val % 2) + (y 1).val
    omega

end Cert.FfnUpIdeal.Gate

namespace Cert.FfnUpReferenceIdeal.Gate

open Idealize.ShloMosaic Idealize.ShloMosaic.TcCoe Idealize.ShloMosaic.Tactic Idealize.SL.Sem
open Cert.FfnUpReferenceIdeal Cert.FfnUpReferenceIdeal.Gen Cert.FfnUpReferenceIdeal.Read Cert.Calls

theorem normed_eq (x : Mat 16384 1024) (g : (⟨1, ![1024]⟩ : Shape).Idx → EReal) (r : Fin 16384) (k : Fin 1024) :
    val_main_v12 (F := Ideal) x g (ix2 r k) = normed x g r k := by
  rw [val_main_v12_apply, val_main_v11_apply, val_main_v10_apply, val_main_v9_apply, val_main_v8_apply, val_main_v7_apply, val_main_v6_apply,
    val_main_v5_apply, val_main_v4_apply, val_main_v3_apply, val_main_v2_apply, val_main_v1_apply]
  refine congrArg₂ (· * ·) (congrArg₂ (· * ·) rfl (congrArg Ideal.rsqrt (congrArg (Ideal.div · width + eps) ?_))) (congrArg g ?_)
  · refine (congrArg (· + _) Ideal.ofBits_zero_f32).trans ((zero_add _).trans (Finset.sum_congr rfl fun j _ => ?_))
    have e : idx_main_v1 (idx_main_v2 (idx_main_v8 (ix2 r k))) j = ix2 r j := funext fun a => match a with | ⟨0, _⟩ => rfl | ⟨1, _⟩ => rfl
    rw [e]
    rfl
  · exact funext fun a => match a with | ⟨0, _⟩ => rfl

theorem projected_eq (x : Mat 16384 1024) (g : (⟨1, ![1024]⟩ : Shape).Idx → EReal) (w : Mat 1024 5632) :
    val_main_v13 (F := Ideal) x g w = projected x g w := by
  funext i
  rw [val_main_v13_apply]
  refine Finset.sum_congr rfl fun k _ => congrArg₂ (· * ·) ?_ (congrArg w ?_)
  · have e : lidx_main_v13 i k = ix2 (i 0) k := funext fun a => match a with | ⟨0, _⟩ => rfl | ⟨1, _⟩ => rfl
    exact (congrArg (val_main_v12 (F := Ideal) x g) e).trans (normed_eq x g (i 0) k)
  · exact funext fun a => match a with | ⟨0, _⟩ => rfl | ⟨1, _⟩ => rfl

theorem gated_eq (x : Mat 16384 1024) (g : (⟨1, ![1024]⟩ : Shape).Idx → EReal) (w : Mat 1024 5632) :
    val_main_v18 (F := Ideal) x g w = gated x g w := by
  funext i
  rw [val_main_v18_apply, val_main_v17_apply, val_main_v16_apply, val_main_v15_apply, val_main_call0_v5_apply, val_main_call0_v4_apply, val_main_call0_v3_apply,
    val_main_call0_v2_apply, val_main_call0_v1_apply, val_main_call0_v0_apply, val_main_v14_apply, val_main_call0_cst_apply, val_main_call0_cst_0_apply, projected_eq]
  have eg : idx_main_v14 i = ix2 (i 0) ⟨(i 1).val, lt_trans (i 1).isLt (show (2816 : ℕ) < 5632 by decide)⟩ := funext fun a => match a with
    | ⟨0, _⟩ => rfl
    | ⟨1, _⟩ => rfl
  have eu : idx_main_v15 i = ix2 (i 0) ⟨2816 + (i 1).val, Nat.add_lt_add_left (i 1).isLt 2816⟩ := funext fun a => match a with
    | ⟨0, _⟩ => rfl
    | ⟨1, _⟩ => rfl
  rw [eg, eu]
  have h1 : FloatOps.ofBits (F := Ideal) FTy.f32 1065353216#32 = (1 : EReal) := Ideal.ofBits_one_f32
  rw [h1]
  rfl

end Cert.FfnUpReferenceIdeal.Gate
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.FfnUp
public import proofs.«01_k».proof.Proof.Gen.FfnUp.Frame
public import proofs.«01_k».proof.Proof.Gen.FfnUpIdeal
public import proofs.«01_k».proof.Proof.Gen.FfnUpIdeal.Frame
public import proofs.«01_k».proof.Proof.Gen.FfnUpIdeal.Value
public import proofs.«01_k».proof.Proof.Gen.FfnUpReferenceIdeal
public import proofs.«01_k».proof.Proof.Gen.FfnUpReferenceIdeal.Run
public import proofs.«01_k».proof.Proof.Gen.FfnUpReferenceIdeal.Read
public import proofs.«01_k».proof.Proof.Gen.FfnDown
public import proofs.«01_k».proof.Proof.Gen.FfnDown.Frame
public import proofs.«01_k».proof.Proof.Gen.FfnDownIdeal
public import proofs.«01_k».proof.Proof.Gen.FfnDownIdeal.Frame
public import proofs.«01_k».proof.Proof.Gen.FfnDownIdeal.Value
public import proofs.«01_k».proof.Proof.Gen.FfnDownReferenceIdeal
public import proofs.«01_k».proof.Proof.Gen.FfnDownReferenceIdeal.Run
public import proofs.«01_k».proof.Proof.Gen.FfnDownReferenceIdeal.Read
public import proofs.«01_k».proof.Proof.Gen.Projection
public import proofs.«01_k».proof.Proof.Gen.Projection.Frame
public import proofs.«01_k».proof.Proof.Gen.ProjectionIdeal
public import proofs.«01_k».proof.Proof.Gen.ProjectionIdeal.Frame
public import proofs.«01_k».proof.Proof.Gen.ProjectionIdeal.Value
public import proofs.«01_k».proof.Proof.Gen.ProjectionReferenceIdeal
public import proofs.«01_k».proof.Proof.Gen.ProjectionReferenceIdeal.Run
public import proofs.«01_k».proof.Proof.Gen.ProjectionReferenceIdeal.Read
public import proofs.«01_k».proof.Proof.Gen.Output
public import proofs.«01_k».proof.Proof.Gen.Output.Frame
public import proofs.«01_k».proof.Proof.Gen.OutputIdeal
public import proofs.«01_k».proof.Proof.Gen.OutputIdeal.Frame
public import proofs.«01_k».proof.Proof.Gen.OutputIdeal.Value
public import proofs.«01_k».proof.Proof.Gen.OutputReferenceIdeal
public import proofs.«01_k».proof.Proof.Gen.OutputReferenceIdeal.Run
public import proofs.«01_k».proof.Proof.Gen.OutputReferenceIdeal.Read
public import proofs.«01_k».proof.Proof.Gen.Pre_gains_finite
public import proofs.«01_k».proof.Proof.Sweep
public import proofs.«01_k».proof.Proof.Plain
public import proofs.«01_k».proof.Proof.Gains
public import Idealize.ShloMosaic.Adequacy
public import Idealize.ShloMosaic.Init
public import proofs.«01_k».proof.Proof.Down
public import proofs.«01_k».proof.Proof.Gather
public import proofs.«01_k».proof.Proof.Project
public import proofs.«01_k».proof.Proof.Gate
public import proofs.«01_k».proof.Proof.Gen.Recurrence.Frame
public import proofs.«01_k».proof.Proof.Gen.RecurrenceIdeal.Frame

@[expose] public section

noncomputable section

namespace Cert.Proof

open Idealize.ShloMosaic Idealize.SL.Sem Cert.Kernel

/-- The reference runs, its arguments stand and no semaphore is left raised: it has none. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2, sem_eq_zero_of_no_sems (by decide) r.2⟩) (Cert.ReferenceIdeal.Value.run (F := Ideal) m ρ)

/-- Kernel and reference both end with the attention of the launch's arrays. -/
theorem algebraic [hPre : Cert.Pre_gains_finite.Facts] : Cert.algebraic_KernelIdeal_ReferenceIdeal_pre_gains_finite := by
  intro m ρ m' ρ' hpre hag
  refine ⟨fun c => Cert.KernelIdeal.Sweep.G m c, ?_, ?_⟩
  · refine (θ_run _ _ _).mono (fun _ h c => ⟨(h c).1.trans ?_, (h c).2⟩) (Cert.KernelIdeal.Value.run_blocks (F := Ideal) m ρ)
    have hr := Cert.Gains.gains_real _ _ _ _ (hpre c)
    exact Cert.KernelIdeal.Sweep.result_eq m c (fun i => hr.1 _) (fun i => hr.2 _)
  · refine (θ_run _ _ _).mono (fun _ h c => ⟨(h c).1.trans ?_, (h c).2⟩) (Cert.ReferenceIdeal.Value.run (F := Ideal) m' ρ')
    have hr := Cert.Gains.gains_real _ _ _ _ (hpre c)
    refine (Cert.ReferenceIdeal.Read.val_main_v69_eq (F := Ideal) (StableHlo.launchContents m' c)).trans ?_
    rw [StableHlo.launchContents_devRef, StableHlo.launchContents_devRef, StableHlo.launchContents_devRef, StableHlo.launchContents_devRef,
      (hag c).1, (hag c).2.1, (hag c).2.2.1, (hag c).2.2.2]
    exact Cert.ReferenceIdeal.Plain.reference_eq _ _ _ _ (fun i => hr.1 _) (fun i => hr.2 _)

/-- The plain program of FfnUp runs, its arguments stand and no semaphore is left raised: it has none. -/
theorem frame_ffn_up (m : (ℓ : Loc Cert.FfnUpReferenceIdeal.nD Cert.FfnUpReferenceIdeal.τ Cert.FfnUpReferenceIdeal.sig) → Buf (Elt Ideal) ℓ) (ρ : Dev Cert.FfnUpReferenceIdeal.nD → PrngReg) :
    θ_run (Cert.FfnUpReferenceIdeal.defs (F := Ideal)) (onTc (τ := Cert.FfnUpReferenceIdeal.τ) (Cert.FfnUpReferenceIdeal.main (F := Ideal))) ⟨m, fun _ => 0, ρ⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2))
      ∧ r.2.sem = fun _ => 0) :=
  (θ_run _ _ _).mono (fun r h => ⟨fun c => (h c).2, sem_eq_zero_of_no_sems (by decide) r.2⟩) (Cert.FfnUpReferenceIdeal.Value.run (F := Ideal) m ρ)

/-- FfnUp and its plain program both end with the gate's product with its partner. -/
theorem algebraic_ffn_up : Cert.algebraic_FfnUpIdeal_FfnUpReferenceIdeal := by
  intro m ρ m' ρ' _ hag
  refine ⟨fun c => Cert.FfnUpIdeal.Gate.G m c, ?_, ?_⟩
  · exact (θ_run _ _ _).mono (fun _ h c => ⟨(h c).1.trans (Cert.FfnUpIdeal.Gate.result_eq m c), (h c).2⟩) (Cert.FfnUpIdeal.Value.run_blocks (F := Ideal) m ρ)
  · refine (θ_run _ _ _).mono (fun _ h c => ⟨(h c).1.trans ?_, (h c).2⟩) (Cert.FfnUpReferenceIdeal.Value.run (F := Ideal) m' ρ')
    refine (Cert.FfnUpReferenceIdeal.Read.val_main_v18_eq (F := Ideal) (m' ((c.tc : Thread Cert.FfnUpReferenceIdeal.nD Cert.FfnUpReferenceIdeal.τ).loc Cert.FfnUpReferenceIdeal.main_arg0)) (m' ((c.tc : Thread Cert.FfnUpReferenceIdeal.nD Cert.FfnUpReferenceIdeal.τ).loc Cert.FfnUpReferenceIdeal.main_arg1)) (m' ((c.tc : Thread Cert.FfnUpReferenceIdeal.nD Cert.FfnUpReferenceIdeal.τ).loc Cert.FfnUpReferenceIdeal.main_arg2))).trans ?_
    rw [(hag c).1, (hag c).2.1, (hag c).2.2]
    exact Cert.FfnUpReferenceIdeal.Gate.gated_eq _ _ _

/-- The plain program of FfnDown runs, its arguments stand and no semaphore is left raised: it has none. -/
theorem frame_ffn_down (m : (ℓ : Loc Cert.FfnDownReferenceIdeal.nD Cert.FfnDownReferenceIdeal.τ Cert.FfnDownReferenceIdeal.sig) → Buf (Elt Ideal) ℓ) (ρ : Dev Cert.FfnDownReferenceIdeal.nD → PrngReg) :
    θ_run (Cert.FfnDownReferenceIdeal.defs (F := Ideal)) (onTc (τ := Cert.FfnDownReferenceIdeal.τ) (Cert.FfnDownReferenceIdeal.main (F := Ideal))) ⟨m, fun _ => 0, ρ⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2))
      ∧ r.2.sem = fun _ => 0) :=
  (θ_run _ _ _).mono (fun r h => ⟨fun c => (h c).2, sem_eq_zero_of_no_sems (by decide) r.2⟩) (Cert.FfnDownReferenceIdeal.Value.run (F := Ideal) m ρ)

/-- FfnDown and its plain program both end with the argument plus one product. -/
theorem algebraic_ffn_down : Cert.algebraic_FfnDownIdeal_FfnDownReferenceIdeal := by
  intro m ρ m' ρ' _ hag
  refine ⟨fun c => Cert.FfnDownIdeal.Down.G m c, ?_, ?_⟩
  · exact (θ_run _ _ _).mono (fun _ h c => ⟨(h c).1.trans (Cert.FfnDownIdeal.Down.result_eq m c), (h c).2⟩) (Cert.FfnDownIdeal.Value.run_blocks (F := Ideal) m ρ)
  · refine (θ_run _ _ _).mono (fun _ h c => ⟨(h c).1.trans ?_, (h c).2⟩) (Cert.FfnDownReferenceIdeal.Value.run (F := Ideal) m' ρ')
    refine (Cert.FfnDownReferenceIdeal.Read.val_main_v2_eq (F := Ideal) (m' ((c.tc : Thread Cert.FfnDownReferenceIdeal.nD Cert.FfnDownReferenceIdeal.τ).loc Cert.FfnDownReferenceIdeal.main_arg0)) (m' ((c.tc : Thread Cert.FfnDownReferenceIdeal.nD Cert.FfnDownReferenceIdeal.τ).loc Cert.FfnDownReferenceIdeal.main_arg1)) (m' ((c.tc : Thread Cert.FfnDownReferenceIdeal.nD Cert.FfnDownReferenceIdeal.τ).loc Cert.FfnDownReferenceIdeal.main_arg2))).trans ?_
    rw [(hag c).1, (hag c).2.1, (hag c).2.2]
    exact Cert.FfnDownReferenceIdeal.Down.reference_eq _ _ _

/-- The plain program of Projection runs, its arguments stand and no semaphore is left raised: it has none. -/
theorem frame_projection (m : (ℓ : Loc Cert.ProjectionReferenceIdeal.nD Cert.ProjectionReferenceIdeal.τ Cert.ProjectionReferenceIdeal.sig) → Buf (Elt Ideal) ℓ) (ρ : Dev Cert.ProjectionReferenceIdeal.nD → PrngReg) :
    θ_run (Cert.ProjectionReferenceIdeal.defs (F := Ideal)) (onTc (τ := Cert.ProjectionReferenceIdeal.τ) (Cert.ProjectionReferenceIdeal.main (F := Ideal))) ⟨m, fun _ => 0, ρ⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2))
      ∧ r.2.sem = fun _ => 0) :=
  (θ_run _ _ _).mono (fun r h => ⟨fun c => (h c).2, sem_eq_zero_of_no_sems (by decide) r.2⟩) (Cert.ProjectionReferenceIdeal.Value.run (F := Ideal) m ρ)

/-- Projection and its plain program both end with the normalised rows' product. -/
theorem algebraic_projection : Cert.algebraic_ProjectionIdeal_ProjectionReferenceIdeal := by
  intro m ρ m' ρ' _ hag
  refine ⟨fun c => Cert.ProjectionIdeal.Project.G m c, ?_, ?_⟩
  · exact (θ_run _ _ _).mono (fun _ h c => ⟨(h c).1.trans (Cert.ProjectionIdeal.Project.result_eq m c), (h c).2⟩) (Cert.ProjectionIdeal.Value.run_blocks (F := Ideal) m ρ)
  · refine (θ_run _ _ _).mono (fun _ h c => ⟨(h c).1.trans ?_, (h c).2⟩) (Cert.ProjectionReferenceIdeal.Value.run (F := Ideal) m' ρ')
    refine (Cert.ProjectionReferenceIdeal.Read.val_main_v13_eq (F := Ideal) (m' ((c.tc : Thread Cert.ProjectionReferenceIdeal.nD Cert.ProjectionReferenceIdeal.τ).loc Cert.ProjectionReferenceIdeal.main_arg0)) (m' ((c.tc : Thread Cert.ProjectionReferenceIdeal.nD Cert.ProjectionReferenceIdeal.τ).loc Cert.ProjectionReferenceIdeal.main_arg1)) (m' ((c.tc : Thread Cert.ProjectionReferenceIdeal.nD Cert.ProjectionReferenceIdeal.τ).loc Cert.ProjectionReferenceIdeal.main_arg2))).trans ?_
    rw [(hag c).1, (hag c).2.1, (hag c).2.2]
    exact Cert.ProjectionReferenceIdeal.Project.projected_eq _ _ _

/-- The plain program of Output runs, its arguments stand and no semaphore is left raised: it has none. -/
theorem frame_output (m : (ℓ : Loc Cert.OutputReferenceIdeal.nD Cert.OutputReferenceIdeal.τ Cert.OutputReferenceIdeal.sig) → Buf (Elt Ideal) ℓ) (ρ : Dev Cert.OutputReferenceIdeal.nD → PrngReg) :
    θ_run (Cert.OutputReferenceIdeal.defs (F := Ideal)) (onTc (τ := Cert.OutputReferenceIdeal.τ) (Cert.OutputReferenceIdeal.main (F := Ideal))) ⟨m, fun _ => 0, ρ⟩ (fun r => (∀ c : Dev Cert.OutputReferenceIdeal.nD,
      r.2.mem ((c.tc : Thread Cert.OutputReferenceIdeal.nD Cert.OutputReferenceIdeal.τ).loc Cert.OutputReferenceIdeal.main_arg0) = m ((c.tc : Thread Cert.OutputReferenceIdeal.nD Cert.OutputReferenceIdeal.τ).loc Cert.OutputReferenceIdeal.main_arg0)
      ∧ r.2.mem ((c.tc : Thread Cert.OutputReferenceIdeal.nD Cert.OutputReferenceIdeal.τ).loc Cert.OutputReferenceIdeal.main_arg1) = m ((c.tc : Thread Cert.OutputReferenceIdeal.nD Cert.OutputReferenceIdeal.τ).loc Cert.OutputReferenceIdeal.main_arg1)
      ∧ r.2.mem ((c.tc : Thread Cert.OutputReferenceIdeal.nD Cert.OutputReferenceIdeal.τ).loc Cert.OutputReferenceIdeal.main_arg2) = m ((c.tc : Thread Cert.OutputReferenceIdeal.nD Cert.OutputReferenceIdeal.τ).loc Cert.OutputReferenceIdeal.main_arg2)
      ∧ r.2.mem ((c.tc : Thread Cert.OutputReferenceIdeal.nD Cert.OutputReferenceIdeal.τ).loc Cert.OutputReferenceIdeal.main_arg3) = m ((c.tc : Thread Cert.OutputReferenceIdeal.nD Cert.OutputReferenceIdeal.τ).loc Cert.OutputReferenceIdeal.main_arg3)
      ∧ r.2.mem ((c.tc : Thread Cert.OutputReferenceIdeal.nD Cert.OutputReferenceIdeal.τ).loc Cert.OutputReferenceIdeal.main_arg4) = m ((c.tc : Thread Cert.OutputReferenceIdeal.nD Cert.OutputReferenceIdeal.τ).loc Cert.OutputReferenceIdeal.main_arg4)
      ∧ r.2.mem ((c.tc : Thread Cert.OutputReferenceIdeal.nD Cert.OutputReferenceIdeal.τ).loc Cert.OutputReferenceIdeal.main_arg5) = m ((c.tc : Thread Cert.OutputReferenceIdeal.nD Cert.OutputReferenceIdeal.τ).loc Cert.OutputReferenceIdeal.main_arg5)
      ∧ r.2.mem ((c.tc : Thread Cert.OutputReferenceIdeal.nD Cert.OutputReferenceIdeal.τ).loc Cert.OutputReferenceIdeal.main_arg6) = m ((c.tc : Thread Cert.OutputReferenceIdeal.nD Cert.OutputReferenceIdeal.τ).loc Cert.OutputReferenceIdeal.main_arg6))
      ∧ r.2.sem = fun _ => 0) :=
  (θ_run _ _ _).mono (fun r h => ⟨fun c => (h c).2, sem_eq_zero_of_no_sems (by decide) r.2⟩) (Cert.OutputReferenceIdeal.Value.run (F := Ideal) m ρ)

/-- Output and its plain program both end with the argument plus the three products. -/
theorem algebraic_output : Cert.algebraic_OutputIdeal_OutputReferenceIdeal := by
  intro m ρ m' ρ' _ hag
  refine ⟨fun c => Cert.OutputIdeal.Gather.G m c, ?_, ?_⟩
  · exact (θ_run _ _ _).mono (fun _ h c => ⟨(h c).1.trans (Cert.OutputIdeal.Gather.result_eq m c), (h c).2⟩) (Cert.OutputIdeal.Value.run_blocks (F := Ideal) m ρ)
  · refine (θ_run _ _ _).mono (fun _ h c => ⟨(h c).1.trans ?_, (h c).2⟩) (Cert.OutputReferenceIdeal.Value.run (F := Ideal) m' ρ')
    refine (Cert.OutputReferenceIdeal.Read.val_main_v4_eq (F := Ideal) (m' ((c.tc : Thread Cert.OutputReferenceIdeal.nD Cert.OutputReferenceIdeal.τ).loc Cert.OutputReferenceIdeal.main_arg0)) (m' ((c.tc : Thread Cert.OutputReferenceIdeal.nD Cert.OutputReferenceIdeal.τ).loc Cert.OutputReferenceIdeal.main_arg1)) (m' ((c.tc : Thread Cert.OutputReferenceIdeal.nD Cert.OutputReferenceIdeal.τ).loc Cert.OutputReferenceIdeal.main_arg2)) (m' ((c.tc : Thread Cert.OutputReferenceIdeal.nD Cert.OutputReferenceIdeal.τ).loc Cert.OutputReferenceIdeal.main_arg3)) (m' ((c.tc : Thread Cert.OutputReferenceIdeal.nD Cert.OutputReferenceIdeal.τ).loc Cert.OutputReferenceIdeal.main_arg4)) (m' ((c.tc : Thread Cert.OutputReferenceIdeal.nD Cert.OutputReferenceIdeal.τ).loc Cert.OutputReferenceIdeal.main_arg5)) (m' ((c.tc : Thread Cert.OutputReferenceIdeal.nD Cert.OutputReferenceIdeal.τ).loc Cert.OutputReferenceIdeal.main_arg6))).trans ?_
    rw [(hag c).1, (hag c).2.1, (hag c).2.2.1, (hag c).2.2.2.1, (hag c).2.2.2.2.1, (hag c).2.2.2.2.2.1, (hag c).2.2.2.2.2.2]
    exact Cert.OutputReferenceIdeal.Gather.reference_eq _ _ _ _ _ _ _

theorem claim : Cert.Claim := ⟨Cert.Kernel.Gen.facts, Cert.KernelIdeal.Gen.facts, Cert.ReferenceIdeal.Gen.facts, Cert.FfnUp.Gen.facts, Cert.FfnUpIdeal.Gen.facts, Cert.FfnUpReferenceIdeal.Gen.facts, Cert.FfnDown.Gen.facts, Cert.FfnDownIdeal.Gen.facts, Cert.FfnDownReferenceIdeal.Gen.facts, Cert.Projection.Gen.facts, Cert.ProjectionIdeal.Gen.facts, Cert.ProjectionReferenceIdeal.Gen.facts, Cert.Output.Gen.facts, Cert.OutputIdeal.Gen.facts, Cert.OutputReferenceIdeal.Gen.facts, Cert.Recurrence.Gen.facts, Cert.RecurrenceIdeal.Gen.facts, Cert.Gains.facts,
  fun m ρ _ => Cert.Kernel.Gen.frame m ρ, fun m ρ _ => Cert.KernelIdeal.Gen.frame m ρ, fun m ρ _ => Cert.KernelIdeal.Gen.frame m ρ,
  fun m ρ _ => frame_reference m ρ, fun m ρ _ => frame_reference m ρ,
  fun m ρ _ => Cert.FfnUp.Gen.frame m ρ, fun m ρ _ => Cert.FfnUpIdeal.Gen.frame m ρ, fun m ρ _ => frame_ffn_up m ρ,
  fun m ρ _ => Cert.FfnDown.Gen.frame m ρ, fun m ρ _ => Cert.FfnDownIdeal.Gen.frame m ρ, fun m ρ _ => frame_ffn_down m ρ,
  fun m ρ _ => Cert.Projection.Gen.frame m ρ, fun m ρ _ => Cert.ProjectionIdeal.Gen.frame m ρ, fun m ρ _ => frame_projection m ρ,
  fun m ρ _ => Cert.Output.Gen.frame m ρ, fun m ρ _ => Cert.OutputIdeal.Gen.frame m ρ, fun m ρ _ => frame_output m ρ,
  fun m ρ _ => Cert.Recurrence.Gen.frame m ρ, fun m ρ _ => Cert.RecurrenceIdeal.Gen.frame m ρ,
  trivial, algebraic (hPre := Cert.Gains.facts), trivial, algebraic_ffn_up, trivial, algebraic_ffn_down, trivial, algebraic_projection, trivial, algebraic_output, trivial⟩

end Cert.Proof

end
